-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_row_max [hPre_finite_row_max : Cert.Pre_finite_row_max.Facts] (m : (ℓ : Loc Cert.KernelIdeal.nD Cert.KernelIdeal.τ Cert.KernelIdeal.sig) → Buf (Elt Ideal) ℓ) : Prop :=
  ∀ c : Dev Cert.KernelIdeal.nD,
    (Cert.Pre_finite_row_max.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_row_max [hPre_finite_row_max : Cert.Pre_finite_row_max.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_row_max.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_row_max [hKernelIdeal : Cert.KernelIdeal.Facts] [hPre_finite_row_max : Cert.Pre_finite_row_max.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_row_max m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_row_max [hReferenceIdeal : Cert.ReferenceIdeal.Facts] [hPre_finite_row_max : Cert.Pre_finite_row_max.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_row_max m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite_row_max [hKernelIdeal : Cert.KernelIdeal.Facts] [hReferenceIdeal : Cert.ReferenceIdeal.Facts] [hPre_finite_row_max : Cert.Pre_finite_row_max.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_row_max m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_row_max : Cert.Pre_finite_row_max.Facts),
    quiescent_Kernel (hKernel := hKernel)
    ∧ quiescent_KernelIdeal (hKernelIdeal := hKernelIdeal)
    ∧ quiescent_KernelIdeal_pre_finite_row_max (hKernelIdeal := hKernelIdeal) (hPre_finite_row_max := hPre_finite_row_max)
    ∧ quiescent_ReferenceIdeal (hReferenceIdeal := hReferenceIdeal)
    ∧ quiescent_ReferenceIdeal_pre_finite_row_max (hReferenceIdeal := hReferenceIdeal) (hPre_finite_row_max := hPre_finite_row_max)
    ∧ preserves_Kernel_KernelIdeal
    ∧ algebraic_KernelIdeal_ReferenceIdeal_pre_finite_row_max (hKernelIdeal := hKernelIdeal) (hReferenceIdeal := hReferenceIdeal) (hPre_finite_row_max := hPre_finite_row_max)
-- ==== Pre_finite_row_max.lean ====
abbrev S128x4x100000 : Shape := ⟨3, ![128, 4, 100000]⟩
abbrev S_ : Shape := ⟨0, ![]⟩
abbrev S128x100000 : Shape := ⟨2, ![128, 100000]⟩
abbrev S128 : Shape := ⟨1, ![128]⟩

class Facts : Prop where
  reducesTo_S128x4x100000_S128x100000_d1 : S128x4x100000.ReducesTo [1] S128x100000
  h_S_ : 0 < S_.numel
  reducesTo_S128x100000_S128_d1 : S128x100000.ReducesTo [1] S128
  bcast_S_S128 : S_.BroadcastsInDim S128 (![] : Fin 0 → Fin S128.rank)

variable [Facts]

def fn {F : FTy → Type} [FloatOps F] (main_arg0 : FVec F S128x4x100000 .f32) : IVec S128 1 :=
  let main_cst : FVec F S_ .f32 := constant S_ .f32 0x7F800000#32
  let main_v0 : FVec F S128x100000 .f32 := (fun x v => Host.reduce FloatOps.minimumf x v reducesTo_S128x4x100000_S128x100000_d1 h_S_) main_arg0 main_cst
  let main_cst_0 : FVec F S_ .f32 := constant S_ .f32 0xFF800000#32
  let main_v1 : FVec F S128 .f32 := (fun x v => Host.reduce FloatOps.maximumf x v reducesTo_S128x100000_S128_d1 h_S_) main_v0 main_cst_0
  let main_cst_1 : FVec F S_ .f32 := constant S_ .f32 0xFF800000#32
  let main_v2 : FVec F S128 .f32 := broadcastInDim S128 ![] bcast_S_S128 main_cst_1
  let main_v3 : IVec S128 1 := cmpf .ogt main_v1 main_v2
  let main_cst_2 : FVec F S_ .f32 := constant S_ .f32 0x7F800000#32
  let main_v4 : FVec F S128 .f32 := broadcastInDim S128 ![] bcast_S_S128 main_cst_2
  let main_v5 : IVec S128 1 := cmpf .olt main_v1 main_v4
  let main_v6 : IVec S128 1 := andi main_v3 main_v5
  main_v6
-- ==== Kernel.lean ====
abbrev S128x4x100000 : Shape := ⟨3, ![128, 4, 100000]⟩
abbrev S4x100000x128 : Shape := ⟨3, ![4, 100000, 128]⟩
abbrev S100000x128 : Shape := ⟨2, ![100000, 128]⟩
abbrev S8x128 : Shape := ⟨2, ![8, 128]⟩
abbrev S4x1024x128 : Shape := ⟨3, ![4, 1024, 128]⟩
abbrev S2048x128 : Shape := ⟨2, ![2048, 128]⟩
abbrev S100352x128 : Shape := ⟨2, ![100352, 128]⟩
abbrev S1024x128 : Shape := ⟨2, ![1024, 128]⟩
abbrev S128x8x128 : Shape := ⟨3, ![128, 8, 128]⟩
abbrev S1x8x128 : Shape := ⟨3, ![1, 8, 128]⟩
abbrev S128 : Shape := ⟨1, ![128]⟩
abbrev S1x128 : Shape := ⟨2, ![1, 128]⟩
abbrev S128x100000 : Shape := ⟨2, ![128, 100000]⟩

abbrev nBuf : Space → Nat
  | .hbm => 8
  | .vmem => 10
  | .smem => 0
  | _ => 0

abbrev bufTy : (tb : Table) → Fin (tcTables nBuf tb) → BufTy
  | .hbm, ⟨0, _⟩ => ⟨S128x4x100000, .f32⟩
  | .hbm, ⟨1, _⟩ => ⟨S4x100000x128, .f32⟩
  | .hbm, ⟨2, _⟩ => ⟨S100000x128, .f32⟩
  | .hbm, ⟨3, _⟩ => ⟨S8x128, .f32⟩
  | .hbm, ⟨4, _⟩ => ⟨S8x128, .i32⟩
  | .hbm, ⟨5, _⟩ => ⟨S128x100000, .f32⟩
  | .hbm, ⟨6, _⟩ => ⟨S1x128, .i32⟩
  | .hbm, ⟨7, _⟩ => ⟨S128, .i32⟩
  | .local _ .vmem, ⟨0, _⟩ => ⟨S4x1024x128, .f32⟩
  | .local _ .vmem, ⟨1, _⟩ => ⟨S4x1024x128, .f32⟩
  | .local _ .vmem, ⟨2, _⟩ => ⟨S2048x128, .f32⟩
  | .local _ .vmem, ⟨3, _⟩ => ⟨S2048x128, .f32⟩
  | .local _ .vmem, ⟨4, _⟩ => ⟨S8x128, .f32⟩
  | .local _ .vmem, ⟨5, _⟩ => ⟨S8x128, .i32⟩
  | .local _ .vmem, ⟨6, _⟩ => ⟨S100352x128, .f32⟩
  | .local _ .vmem, ⟨7, _⟩ => ⟨S8x128, .f32⟩
  | .local _ .vmem, ⟨8, _⟩ => ⟨S8x128, .f32⟩
  | .local _ .vmem, ⟨9, _⟩ => ⟨S8x128, .i32⟩
  | _, _ => ⟨S128x4x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![147], ![false]⟩

def k0_cond2 (i : grid0.Coords) : BitVec 1 :=
  let arg0 : BitVec 32 := BitVec.ofNat 32 (i 0).val
  let c98_i32 : BitVec 32 := 98#32
  let v3 : BitVec 1 := Scalar.cmpi .slt arg0 c98_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c1024_i32 : BitVec 32 := 1024#32
  let v15 : BitVec 32 := Scalar.muli arg0 c1024_i32
  let v16 : Index := Scalar.indexCast v15
  let c0_7 : Index := 0#32
  ![v16.toNat, 0]
def k0_cond4 (i : grid0.Coords) : BitVec 1 :=
  let arg0 : BitVec 32 := BitVec.ofNat 32 (i 0).val
  let c98_i32_3 : BitVec 32 := 98#32
  let v9 : BitVec 1 := Scalar.cmpi .sge arg0 c98_i32_3
  let v10 : BitVec 32 := Scalar.extui v9
  let c0_i32_4 : BitVec 32 := 0#32
  let v11 : BitVec 1 := Scalar.cmpi .ne v10 c0_i32_4
  v11

def k0_off2 (i : grid0.Coords) : Fin 2 → Nat :=
  let arg0 : BitVec 32 := BitVec.ofNat 32 (i 0).val
  let c98_i32_5 : BitVec 32 := 98#32
  let v12 : BitVec 32 := Scalar.subi arg0 c98_i32_5
  let c2048_i32 : BitVec 32 := 2048#32
  let v13 : BitVec 32 := Scalar.muli v12 c2048_i32
  let v14 : Index := Scalar.indexCast v13
  let c0 : Index := 0#32
  ![v14.toNat, 0]
def k0_cond3 (i : grid0.Coords) : BitVec 1 :=
  let arg0 : BitVec 32 := BitVec.ofNat 32 (i 0).val
  let c97_i32 : BitVec 32 := 97#32
  let v6 : BitVec 1 := Scalar.cmpi .eq arg0 c97_i32
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let c97_i32 : BitVec 32 := 97#32
  let v0 : BitVec 32 := Scalar.minsi arg0 c97_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 2 → Nat :=
  let arg0 : BitVec 32 := BitVec.ofNat 32 (i 0).val
  let c98_i32 : BitVec 32 := 98#32
  let v0 : BitVec 32 := Scalar.subi arg0 c98_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S128x4x100000 : Shape := ⟨3, ![128, 4, 100000]⟩
abbrev S_ : Shape := ⟨0, ![]⟩
abbrev S128x100000 : Shape := ⟨2, ![128, 100000]⟩
abbrev S128 : Shape := ⟨1, ![128]⟩
abbrev S128x1 : Shape := ⟨2, ![128, 1]⟩

abbrev nBuf : Space → Nat
  | .hbm => 31
  | .vmem => 0
  | .smem => 0
  | _ => 0

abbrev bufTy : (tb : Table) → Fin (tcTables nBuf tb) → BufTy
  | .hbm, ⟨0, _⟩ => ⟨S128x4x100000, .f32⟩
  | .hbm, ⟨1, _⟩ => ⟨S_, .f32⟩
  | .hbm, ⟨2, _⟩ => ⟨S128x100000, .f32⟩
  | .hbm, ⟨3, _⟩ => ⟨S_, .f32⟩
  | .hbm, ⟨4, _⟩ => ⟨S128, .f32⟩
  | .hbm, ⟨5, _⟩ => ⟨S128x1, .f32⟩
  | .hbm, ⟨6, _⟩ => ⟨S128x100000, .f32⟩
  | .hbm, ⟨7, _⟩ => ⟨S128x100000, .f32⟩
  | .hbm, ⟨8, _⟩ => ⟨S_, .f32⟩
  | .hbm, ⟨9, _⟩ => ⟨S128x100000, .f32⟩
  | .hbm, ⟨10, _⟩ => ⟨S128x100000, .f32⟩
  | .hbm, ⟨11, _⟩ => ⟨S_, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S128x1, .f32⟩
  | .hbm, ⟨17, _⟩ => ⟨S128x100000, .f32⟩
  | .hbm, ⟨18, _⟩ => ⟨S128x100000, .f32⟩
  | .hbm, ⟨19, _⟩ => ⟨S128x100000, .f32⟩
  | .hbm, ⟨20, _⟩ => ⟨S_, .f32⟩
  | .hbm, ⟨21, _⟩ => ⟨S128, .f32⟩
  | .hbm, ⟨22, _⟩ => ⟨S128x1, .f32⟩
  | .hbm, ⟨23, _⟩ => ⟨S128x1, .f32⟩
  | .hbm, ⟨24, _⟩ => ⟨S128x100000, .f32⟩
  | .hbm, ⟨25, _⟩ => ⟨S128x100000, .f32⟩
  | .hbm, ⟨26, _⟩ => ⟨S128x100000, .i32⟩
  | .hbm, ⟨27, _⟩ => ⟨S_, .f32⟩
  | .hbm, ⟨28, _⟩ => ⟨S_, .i32⟩
  | .hbm, ⟨29, _⟩ => ⟨S128, .f32⟩
  | .hbm, ⟨30, _⟩ => ⟨S128, .i32⟩
  | _, _ => ⟨S128x4x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_v0 : Ref sig .tc := ⟨.hbm, 12, rfl⟩
abbrev main_call0_cst_0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_cst_1 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_v7 : Ref sig .tc := ⟨.hbm, 25, rfl⟩
abbrev main_call1_v0 : Ref sig .tc := ⟨.hbm, 26, rfl⟩
abbrev main_call1_cst : Ref sig .tc := ⟨.hbm, 27, rfl⟩
abbrev main_call1_c : Ref sig .tc := ⟨.hbm, 28, rfl⟩
abbrev main_call1_v1_0 : Ref sig .tc := ⟨.hbm, 29, rfl⟩
abbrev main_v8 : Ref sig .tc := ⟨.hbm, 30, rfl⟩

abbrev nD : Nat := 1
abbrev τ : Topo := Topo.v7x

variable {F : FTy → Type} [FloatOps F]
-- ==== Proof.Whole.lean ====
/-
  Accesses of a whole buffer: a load of the full rectangle reads the contents, a store of it replaces them, and a
  store of a smaller rectangle overlays them. Stated of any view, so that every memory operation of the kernel's body
  is read through one of these four.
-/
module

public import Idealize.ShloMosaic.Lib.Pipeline.FrameBody
public import Idealize.ShloMosaic.Lib.Pipeline.FrameSuffix
public import Idealize.ShloMosaic.Lib.Tactic

@[expose] public section

noncomputable section

namespace Cert.Whole

open Idealize.ShloMosaic

variable {sig : RefSig} {κ : Kind} {sp : Space} {s : Shape} {e : EltTy} {Val : EltTy → Type}

/-- The full rectangle at offset zero embeds every index as itself. -/
theorem emb_zero (off : Fin s.rank → ℕ) (h : ∀ a, off a + s.size a ≤ s.size a) (j : s.Idx) :
    (Rect.unit (s := s) off s.size h).emb j = j := by
  funext a
  apply Fin.ext
  have h0 := h a
  rw [Rect.emb_apply]
  show off a + 1 * (j a).val = (j a).val
  omega

/-- A load of the full rectangle reads the contents. -/
theorem readAt_full (v : View sig κ sp s e) (f : v.ty.Contents Val) (off : Fin s.rank → ℕ) (h : ∀ a, off a + s.size a ≤ s.size a) :
    v.readAt Val (Rect.unit (s := s) off s.size h).toLoadRect f = v.read Val f := by
  funext j
  rw [View.readAt_eq_ld]
  show v.read Val f ((Rect.unit (s := s) off s.size h).emb j) = _
  rw [emb_zero]

/-- After a store of the full rectangle, last of the stores listed, the contents are what it stored. -/
theorem read_writes_full (v : View sig κ sp s e) (f : v.ty.Contents Val) (off : Fin s.rank → ℕ) (h : ∀ a, off a + s.size a ≤ s.size a)
    (w : (Rect.unit (s := s) off s.size h).shape.Idx → Val e) (L : List (View.Piece Val s e)) :
    v.read Val (v.writes Val f (⟨Rect.unit (s := s) off s.size h, w⟩ :: L)) = w := by
  funext j
  have := View.read_writes_cons_emb (v := v) (Val := Val) (f := f) (Rect.unit (s := s) off s.size h) w L j
  rw [emb_zero] at this
  exact this

/-- After one store of a rectangle the contents are what they were, overlaid with what it stored. -/
theorem read_writes_overlay (v : View sig κ sp s e) (f : v.ty.Contents Val) (r : Rect s) (w : r.shape.Idx → Val e) :
    v.read Val (v.writes Val f [⟨r, w⟩]) = r.overlay (v.read Val f) w := by
  funext j
  by_cases hj : j ∈ r.set
  · obtain ⟨j', rfl⟩ := r.exists_idx_of_mem hj
    show v.read Val (v.writes Val f [⟨r, w⟩]) (r.emb j') = r.overlay (v.read Val f) w (r.emb j')
    rw [Rect.overlay_emb]
    exact View.read_writes_cons_emb (v := v) (Val := Val) (f := f) r w [] j'
  · rw [Rect.overlay_of_not_mem _ _ _ hj]
    exact View.read_writes_cons_miss (v := v) (Val := Val) (f := f) ⟨r, w⟩ [] j hj

/-- A load of a rectangle reads the contents at the rectangle's elements. -/
theorem readAt_rect (v : View sig κ sp s e) (f : v.ty.Contents Val) (r : Rect s) :
    v.readAt Val r.toLoadRect f = fun j => v.read Val f (r.emb j) := rfl

end Cert.Whole

end
-- ==== Proof.Body.lean ====
/-
  What the kernel's body does at one grid point, at each of the four kinds of point: the first scan point, a later scan
  point, the last scan point (which also finishes the maximum, the normalizer and the index), an emitting point. Each
  is one run of the body over whole buffers at named contents, and states the contents it leaves.
-/
module

public import proofs.«01_k».proof.Proof.Gen.KernelIdeal.Frame
public import proofs.«01_k».proof.Proof.Gen.KernelIdeal.Skeleton
public import proofs.«01_k».proof.Proof.Whole

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A load of a whole `8 × 128` buffer reads its contents. -/
theorem load8 {e : EltTy} {sp : Space} (v : View sig .tc sp S8x128 e) (f : v.ty.Contents (Elt F)) :
    v.readAt (Elt F) (Rect.unit (s := S8x128) ![0, 0] ![8, 128] inb_S8x128_S8x128_0_0).toLoadRect f = v.read (Elt F) f :=
  Whole.readAt_full v f ![0, 0] inb_S8x128_S8x128_0_0
/-- A load of the whole input block reads its contents. -/
theorem load4 {e : EltTy} {sp : Space} (v : View sig .tc sp S4x1024x128 e) (f : v.ty.Contents (Elt F)) :
    v.readAt (Elt F) (Rect.unit (s := S4x1024x128) ![0, 0, 0] ![4, 1024, 128] inb_S4x1024x128_S4x1024x128_0_0_0).toLoadRect f = v.read (Elt F) f :=
  Whole.readAt_full v f ![0, 0, 0] inb_S4x1024x128_S4x1024x128_0_0_0
/-- After a store of a whole `8 × 128` buffer the contents are what was stored. -/
theorem store8 {e : EltTy} {sp : Space} (v : View sig .tc sp S8x128 e) (f : v.ty.Contents (Elt F)) (w : Vec F S8x128 e) (L : List (View.Piece (Elt F) S8x128 e)) :
    v.read (Elt F) (v.writes (Elt F) f (⟨Rect.unit (s := S8x128) ![0, 0] ![8, 128] inb_S8x128_S8x128_0_0, w⟩ :: L)) = w :=
  Whole.read_writes_full v f ![0, 0] inb_S8x128_S8x128_0_0 w L
/-- A load of a whole `8 × 128` buffer just stored is what was stored. -/
theorem reload8 {e : EltTy} {sp : Space} (v : View sig .tc sp S8x128 e) (w : Vec F S8x128 e) (L : List (View.Piece (Elt F) S8x128 e)) :
    v.readCov (Val := Elt F) (⟨Rect.unit (s := S8x128) ![0, 0] ![8, 128] inb_S8x128_S8x128_0_0, w⟩ :: L)
      (Rect.unit (s := S8x128) ![0, 0] ![8, 128] inb_S8x128_S8x128_0_0).toLoadRect = w :=
  View.readCov_cons_toLoadRect _ _ _ _

/-- The grid point as the kernel's word. -/
abbrev gw (i : grid0.Coords) : BitVec 32 := BitVec.ofNat 32 (i 0).val

/-- The kernel's condition for its first point. -/
abbrev isFirst (i : grid0.Coords) : Prop :=
  (Scalar.cmpi .ne (Scalar.extui (Scalar.cmpi .eq (BitVec.ofNat 32 (i 0).val) 0#32)) 0#32 : BitVec 1) = 1#1

/-- The running maxima after a scan point that was handed the block `x`. -/
abbrev stepM (i : grid0.Coords) (x : Vec F S4x1024x128 .f32) (M : Vec F S8x128 .f32) : Vec F S8x128 .f32 :=
  k0_pay5 (k0_pay16 (gw i) x M)
/-- The running sums after it. -/
abbrev stepS (i : grid0.Coords) (x : Vec F S4x1024x128 .f32) (M S : Vec F S8x128 .f32) : Vec F S8x128 .f32 :=
  k0_pay17 (gw i) x M S
/-- The running indices after it. -/
abbrev stepI (i : grid0.Coords) (x : Vec F S4x1024x128 .f32) (M : Vec F S8x128 .f32) (I : Vec F S8x128 .i32) : Vec F S8x128 .i32 :=
  k0_pay4 (k0_pay14 (gw i) x) (k0_pay15 (gw i) x) M I
/-- The kept minima after it: the block's rows overlaid with its ensemble minima. -/
abbrev stepQ (i : grid0.Coords) (h2 : k0_cond2 i = 1#1) (x : Vec F S4x1024x128 .f32) (Q : Vec F S100352x128 .f32) : Vec F S100352x128 .f32 :=
  (Rect.unit (s := S100352x128) (k0_off1 i) S1024x128.size (k0_off1_inb i h2)).overlay Q (k0_pay11 x)
/-- The rows an emitting point writes. -/
abbrev emitted (i : grid0.Coords) (h4 : k0_cond4 i = 1#1) (Q : Vec F S100352x128 .f32) (C : Vec F S8x128 .f32) : Vec F S2048x128 .f32 :=
  k0_pay9 (fun j => Q ((Rect.unit (s := S100352x128) (k0_off2 i) S2048x128.size (k0_off2_inb i h4)).emb j))
    (fun j => C ((Rect.unit (s := S8x128) ![0, 0] S1x128.size inb_S8x128_S1x128_0_0).emb j))

variable (i : grid0.Coords)
  (arg1 : Memref sig .tc .vmem S4x1024x128 .f32) (harg1 : arg1.IsWhole)
  (arg2 : Memref sig .tc .vmem S2048x128 .f32) (harg2 : arg2.IsWhole)
  (arg3 : Memref sig .tc .vmem S8x128 .f32) (harg3 : arg3.IsWhole)
  (arg4 : Memref sig .tc .vmem S8x128 .i32) (harg4 : arg4.IsWhole)
  (arg5 : Memref sig .tc .vmem S100352x128 .f32) (harg5 : arg5.IsWhole)
  (arg6 : Memref sig .tc .vmem S8x128 .f32) (harg6 : arg6.IsWhole)
  (arg7 : Memref sig .tc .vmem S8x128 .f32) (harg7 : arg7.IsWhole)
  (arg8 : Memref sig .tc .vmem S8x128 .i32) (harg8 : arg8.IsWhole)

/-- A scan point after the first: the block's rows kept, the three running values stepped. -/
theorem run_scan (c : Dev nD) (h1 : ¬ isFirst i) (h2 : k0_cond2 i = 1#1) (h3 : ¬ k0_cond3 i = 1#1) (h4 : ¬ k0_cond4 i = 1#1)
    (x1 : Vec F S4x1024x128 .f32) (x5 : Vec F S100352x128 .f32) (x6 x7 : Vec F S8x128 .f32) (x8 : Vec F S8x128 .i32)
    (K : PUnit → sProp 𝕄) :
    iprop(owns (c : Thread nD τ) arg1 fullShare x1
        ∗ owns (c : Thread nD τ) arg5 fullShare x5
        ∗ owns (c : Thread nD τ) arg6 fullShare x6
        ∗ owns (c : Thread nD τ) arg7 fullShare x7
        ∗ owns (c : Thread nD τ) arg8 fullShare x8
        ∗ (iprop(owns (c : Thread nD τ) arg1 fullShare x1
        ∗ owns (c : Thread nD τ) arg5 fullShare (stepQ i h2 x1 x5)
        ∗ owns (c : Thread nD τ) arg6 fullShare (stepM i x1 x6)
        ∗ owns (c : Thread nD τ) arg7 fullShare (stepS i x1 x6 x7)
        ∗ owns (c : Thread nD τ) arg8 fullShare (stepI i x1 x6 x8)) -∗ K ⟨⟩))
      ⊢ wp frame (wpE (defs₀ (F := F)) Variants.none c none) Set.univ
          (cc0__body i arg1 harg1 arg2 harg2 arg3 harg3 arg4 harg4 arg5 harg5 arg6 harg6 arg7 harg7 arg8 harg8) K := by
  simp only [cc0__body_eq_skeleton]; unfold cc0__body_skel
  unfold owns
  iintro ⟨⟨%f1, %hf1, H1⟩, ⟨%f5, %hf5, H5⟩, ⟨%f6, %hf6, H6⟩, ⟨%f7, %hf7, H7⟩, ⟨%f8, %hf8, H8⟩, Hk⟩
  sl_exec
  sl_step
  iapply Hk
  isplitl [H1]
  · iexists _; isplitr; swap; · iexact H1
    ipureintro
    subst hf1 hf5 hf6 hf7 hf8; rfl
  isplitl [H5]
  · iexists _; isplitr; swap; · iexact H5
    ipureintro
    subst hf1 hf5 hf6 hf7 hf8; exact (Whole.read_writes_overlay _ _ _ _).trans (by dsimp only; rw [load4])
  isplitl [H6]
  · iexists _; isplitr; swap; · iexact H6
    ipureintro
    subst hf1 hf5 hf6 hf7 hf8; dsimp only; delta run_scan.sl.r_3; dsimp only; simp only [load8, load4, store8, reload8]
  isplitl [H7]
  · iexists _; isplitr; swap; · iexact H7
    ipureintro
    subst hf1 hf5 hf6 hf7 hf8; dsimp only; delta run_scan.sl.r_4; dsimp only; simp only [load8, load4, store8, reload8]
  · iexists _; isplitr; swap; · iexact H8
    ipureintro
    subst hf1 hf5 hf6 hf7 hf8; dsimp only; delta run_scan.sl.r; delta run_scan.sl.r_1; delta run_scan.sl.r_2; dsimp only; simp only [load8, load4, store8, reload8]

/-- The first point: as a later scan point, from the running values' initial constants. -/
theorem run_first (c : Dev nD) (h1 : isFirst i) (h2 : k0_cond2 i = 1#1) (h3 : ¬ k0_cond3 i = 1#1) (h4 : ¬ k0_cond4 i = 1#1)
    (x1 : Vec F S4x1024x128 .f32) (x5 : Vec F S100352x128 .f32) (x6 x7 : Vec F S8x128 .f32) (x8 : Vec F S8x128 .i32)
    (K : PUnit → sProp 𝕄) :
    iprop(owns (c : Thread nD τ) arg1 fullShare x1
        ∗ owns (c : Thread nD τ) arg5 fullShare x5
        ∗ owns (c : Thread nD τ) arg6 fullShare x6
        ∗ owns (c : Thread nD τ) arg7 fullShare x7
        ∗ owns (c : Thread nD τ) arg8 fullShare x8
        ∗ (iprop(owns (c : Thread nD τ) arg1 fullShare x1
        ∗ owns (c : Thread nD τ) arg5 fullShare (stepQ i h2 x1 x5)
        ∗ owns (c : Thread nD τ) arg6 fullShare (stepM i x1 k0_pay1)
        ∗ owns (c : Thread nD τ) arg7 fullShare (stepS i x1 k0_pay1 k0_pay2)
        ∗ owns (c : Thread nD τ) arg8 fullShare (stepI i x1 k0_pay1 k0_pay3)) -∗ K ⟨⟩))
      ⊢ wp frame (wpE (defs₀ (F := F)) Variants.none c none) Set.univ
          (cc0__body i arg1 harg1 arg2 harg2 arg3 harg3 arg4 harg4 arg5 harg5 arg6 harg6 arg7 harg7 arg8 harg8) K := by
  simp only [cc0__body_eq_skeleton]; unfold cc0__body_skel
  unfold owns
  iintro ⟨⟨%f1, %hf1, H1⟩, ⟨%f5, %hf5, H5⟩, ⟨%f6, %hf6, H6⟩, ⟨%f7, %hf7, H7⟩, ⟨%f8, %hf8, H8⟩, Hk⟩
  sl_exec
  sl_step
  iapply Hk
  isplitl [H1]
  · iexists _; isplitr; swap; · iexact H1
    ipureintro
    subst hf1 hf5 hf6 hf7 hf8; rfl
  isplitl [H5]
  · iexists _; isplitr; swap; · iexact H5
    ipureintro
    subst hf1 hf5 hf6 hf7 hf8; exact (Whole.read_writes_overlay _ _ _ _).trans (by dsimp only; rw [load4])
  isplitl [H6]
  · iexists _; isplitr; swap; · iexact H6
    ipureintro
    subst hf1 hf5 hf6 hf7 hf8; dsimp only; delta run_first.sl.r_2; delta run_first.sl.v37; delta run_first.sl.H6_1; dsimp only; simp only [load8, load4, store8, reload8]
  isplitl [H7]
  · iexists _; isplitr; swap; · iexact H7
    ipureintro
    subst hf1 hf5 hf6 hf7 hf8; dsimp only; delta run_first.sl.r_3; delta run_first.sl.v37; delta run_first.sl.v44; delta run_first.sl.H6_1; delta run_first.sl.H7_1; dsimp only; simp only [load8, load4, store8, reload8]
  · iexists _; isplitr; swap; · iexact H8
    ipureintro
    subst hf1 hf5 hf6 hf7 hf8; dsimp only; delta run_first.sl.r; delta run_first.sl.r_1; delta run_first.sl.v37; delta run_first.sl.v53; delta run_first.sl.H6_1; delta run_first.sl.H8_1; dsimp only; simp only [load8, load4, store8, reload8]

/-- The last scan point: a scan point, after which the normalizer and the index are stored from the stepped values. -/
theorem run_last (c : Dev nD) (h1 : ¬ isFirst i) (h2 : k0_cond2 i = 1#1) (h3 : k0_cond3 i = 1#1) (h4 : ¬ k0_cond4 i = 1#1)
    (x1 : Vec F S4x1024x128 .f32) (x3 : Vec F S8x128 .f32) (x4 : Vec F S8x128 .i32) (x5 : Vec F S100352x128 .f32) (x6 x7 : Vec F S8x128 .f32) (x8 : Vec F S8x128 .i32)
    (K : PUnit → sProp 𝕄) :
    iprop(owns (c : Thread nD τ) arg1 fullShare x1
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ (iprop(owns (c : Thread nD τ) arg1 fullShare x1
        ∗ owns (c : Thread nD τ) arg3 fullShare (k0_pay7 (stepM i x1 x6) (stepS i x1 x6 x7))
        ∗ owns (c : Thread nD τ) arg4 fullShare (k0_pay8 (stepM i x1 x6) (stepI i x1 x6 x8))
        ∗ owns (c : Thread nD τ) arg5 fullShare (stepQ i h2 x1 x5)
        ∗ owns (c : Thread nD τ) arg6 fullShare (stepM i x1 x6)
        ∗ owns (c : Thread nD τ) arg7 fullShare (stepS i x1 x6 x7)
        ∗ owns (c : Thread nD τ) arg8 fullShare (stepI i x1 x6 x8)) -∗ K ⟨⟩))
      ⊢ wp frame (wpE (defs₀ (F := F)) Variants.none c none) Set.univ
          (cc0__body i arg1 harg1 arg2 harg2 arg3 harg3 arg4 harg4 arg5 harg5 arg6 harg6 arg7 harg7 arg8 harg8) K := by
  simp only [cc0__body_eq_skeleton]; unfold cc0__body_skel
  unfold owns
  iintro ⟨⟨%f1, %hf1, H1⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  sl_exec
  sl_step
  iapply Hk
  isplitl [H1]
  · iexists _; isplitr; swap; · iexact H1
    ipureintro
    subst hf1 hf3 hf4 hf5 hf6 hf7 hf8; rfl
  isplitl [H3]
  · iexists _; isplitr; swap; · iexact H3
    ipureintro
    subst hf1 hf3 hf4 hf5 hf6 hf7 hf8; dsimp only; delta run_last.sl.v12; delta run_last.sl.v13; delta run_last.sl.H6_1; delta run_last.sl.H7_1; delta run_last.sl.r_3; delta run_last.sl.r_4; dsimp only; simp only [load8, load4, store8, reload8]
  isplitl [H4]
  · iexists _; isplitr; swap; · iexact H4
    ipureintro
    subst hf1 hf3 hf4 hf5 hf6 hf7 hf8; dsimp only; delta run_last.sl.v12; delta run_last.sl.v14; delta run_last.sl.H6_1; delta run_last.sl.H8_1; delta run_last.sl.r; delta run_last.sl.r_1; delta run_last.sl.r_2; delta run_last.sl.r_3; dsimp only; simp only [load8, load4, store8, reload8]
  isplitl [H5]
  · iexists _; isplitr; swap; · iexact H5
    ipureintro
    subst hf1 hf3 hf4 hf5 hf6 hf7 hf8; exact (Whole.read_writes_overlay _ _ _ _).trans (by dsimp only; rw [load4])
  isplitl [H6]
  · iexists _; isplitr; swap; · iexact H6
    ipureintro
    subst hf1 hf3 hf4 hf5 hf6 hf7 hf8; dsimp only; delta run_last.sl.H6_1; delta run_last.sl.r_3; dsimp only; simp only [load8, load4, store8, reload8]
  isplitl [H7]
  · iexists _; isplitr; swap; · iexact H7
    ipureintro
    subst hf1 hf3 hf4 hf5 hf6 hf7 hf8; dsimp only; delta run_last.sl.H7_1; delta run_last.sl.r_4; dsimp only; simp only [load8, load4, store8, reload8]
  · iexists _; isplitr; swap; · iexact H8
    ipureintro
    subst hf1 hf3 hf4 hf5 hf6 hf7 hf8; dsimp only; delta run_last.sl.H8_1; delta run_last.sl.r; delta run_last.sl.r_1; delta run_last.sl.r_2; dsimp only; simp only [load8, load4, store8, reload8]

/-- An emitting point: a block of kept rows less the normalizer. -/
theorem run_emit (c : Dev nD) (h1 : ¬ isFirst i) (h2 : ¬ k0_cond2 i = 1#1) (h3 : ¬ k0_cond3 i = 1#1) (h4 : k0_cond4 i = 1#1)
    (x2 : Vec F S2048x128 .f32) (x3 : Vec F S8x128 .f32) (x5 : Vec F S100352x128 .f32)
    (K : PUnit → sProp 𝕄) :
    iprop(owns (c : Thread nD τ) arg2 fullShare x2
        ∗ owns (c : Thread nD τ) arg3 fullShare x3
        ∗ owns (c : Thread nD τ) arg5 fullShare x5
        ∗ (iprop(owns (c : Thread nD τ) arg2 fullShare (emitted i h4 x5 x3)
        ∗ owns (c : Thread nD τ) arg3 fullShare x3
        ∗ owns (c : Thread nD τ) arg5 fullShare x5) -∗ K ⟨⟩))
      ⊢ wp frame (wpE (defs₀ (F := F)) Variants.none c none) Set.univ
          (cc0__body i arg1 harg1 arg2 harg2 arg3 harg3 arg4 harg4 arg5 harg5 arg6 harg6 arg7 harg7 arg8 harg8) K := by
  simp only [cc0__body_eq_skeleton]; unfold cc0__body_skel
  unfold owns
  iintro ⟨⟨%f2, %hf2, H2⟩, ⟨%f3, %hf3, H3⟩, ⟨%f5, %hf5, H5⟩, Hk⟩
  sl_exec
  sl_step
  iapply Hk
  isplitl [H2]
  · iexists _; isplitr; swap; · iexact H2
    ipureintro
    subst hf2 hf3 hf5; first | rfl | exact Whole.read_writes_full _ _ _ _ _ _
  isplitl [H3]
  · iexists _; isplitr; swap; · iexact H3
    ipureintro
    subst hf2 hf3 hf5; first | rfl | exact Whole.read_writes_full _ _ _ _ _ _
  · iexists _; isplitr; swap; · iexact H5
    ipureintro
    subst hf2 hf3 hf5; first | rfl | exact Whole.read_writes_full _ _ _ _ _ _

end Cert.KernelIdeal.Hand

end
-- ==== Proof.Facts.lean ====
module

public import proofs.«01_k».proof.Proof.Gen.KernelIdeal.Frame
public import proofs.«01_k».proof.Proof.Gen.KernelIdeal.Skeleton
public import proofs.«01_k».proof.Proof.Body
public import Idealize.ShloMosaic.Lib.Pipeline.Value
public import Idealize.ShloMosaic.PureOps.Reduce

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-! ## The grid -/

/-- The one grid coordinate of point `t` is `t`. -/
theorem coord_val : ∀ t : Fin cfg0.N, ((cfg0.grid.coords t) 0).val = t.val := (by decide +kernel : ∀ t : Fin grid0.N, ((grid0.coords t) 0).val = t.val)

/-- The first point. -/
theorem isFirst_iff : ∀ i : grid0.Coords, isFirst i ↔ (i 0).val = 0 := by decide +kernel
/-- The scan points. -/
theorem cond2_iff : ∀ i : grid0.Coords, k0_cond2 i = 1#1 ↔ (i 0).val < 98 := by decide +kernel
/-- The last scan point. -/
theorem cond3_iff : ∀ i : grid0.Coords, k0_cond3 i = 1#1 ↔ (i 0).val = 97 := by decide +kernel
/-- The emitting points. -/
theorem cond4_iff : ∀ i : grid0.Coords, k0_cond4 i = 1#1 ↔ 98 ≤ (i 0).val := by decide +kernel
/-- Where an emitting point reads the kept rows. -/
theorem off2_eq : ∀ i : grid0.Coords, k0_cond4 i = 1#1 → k0_off2 i = ![2048 * ((i 0).val - 98), 0] := by decide +kernel
/-- The scanned block's index. -/
theorem index0_eq : ∀ i : grid0.Coords, cc0_transform_0 i = ![0, min (i 0).val 97, 0] := by decide +kernel
/-- The emitted block's index. -/
theorem index1_eq : ∀ i : grid0.Coords, cc0_transform_1 i = ![(i 0).val - 98, 0] := by decide +kernel

/-- The rows' window is written back at the emitting points and at no other. -/
theorem flush1 : ∀ t : Fin cfg0.N, (cfg0.win 1).flush t = true ↔ 98 ≤ t.val :=
  (by decide +kernel : ∀ t : Fin grid0.N, win0_1.flush t = true ↔ 98 ≤ t.val)

/-- It is idle at the scan points, and only there; the two small windows are idle but at the last scan point. -/
theorem idle1 : ∀ t : Fin cfg0.N, cfg0.idle 1 (cfg0.grid.coords t) = decide (t.val < 98) :=
  (by decide +kernel : ∀ t : Fin grid0.N, idle0 1 (grid0.coords t) = decide (t.val < 98))
theorem idle2 : ∀ t : Fin cfg0.N, cfg0.idle 2 (cfg0.grid.coords t) = decide (t.val ≠ 97) :=
  (by decide +kernel : ∀ t : Fin grid0.N, idle0 2 (grid0.coords t) = decide (t.val ≠ 97))
theorem idle3 : ∀ t : Fin cfg0.N, cfg0.idle 3 (cfg0.grid.coords t) = decide (t.val ≠ 97) :=
  (by decide +kernel : ∀ t : Fin grid0.N, idle0 3 (grid0.coords t) = decide (t.val ≠ 97))

/-! ## The parts of the blocks that lie in the arrays -/

/-- How much of a scanned block lies in the array. -/
theorem xsize0_eq : ∀ i : grid0.Coords, win0_0.xsize i = ![4, min 1024 (100000 - 1024 * min (i 0).val 97), 128] := by decide +kernel
/-- How much of an emitted block lies in the array. -/
theorem xsize1_eq : ∀ i : grid0.Coords, win0_1.xsize i = ![min 2048 (100000 - 2048 * ((i 0).val - 98)), 128] := by decide +kernel

/-- Contents filled with one block agree at its elements inside the array, whatever they held elsewhere. -/
theorem fill0_congr (i : grid0.Coords) (hi : (i 0).val < 98) (d d' : Vec F S4x1024x128 .f32) (g) (j : S4x1024x128.Idx)
    (hj : 1024 * (i 0).val + (j 1).val < 100000) : win0_0.fill i d g j = win0_0.fill i d' g j := by
  have hm : win0_0.moved i j = true := by
    rw [Pipeline.Window.moved_iff, xsize0_eq]
    intro a
    have h0 : (j 0).val < 4 := (j 0).isLt
    have h1 : (j 1).val < 1024 := (j 1).isLt
    have h2 : (j 2).val < 128 := (j 2).isLt
    fin_cases a
    · exact h0
    · show (j 1).val < min 1024 (100000 - 1024 * min (i 0).val 97)
      omega
    · exact h2
  unfold Pipeline.Window.fill
  rw [dif_pos hm, dif_pos hm]

/-! ## What a scan computes does not depend on the rows past the array's end -/

/-- The row and the lane of an element as an index. -/
def at2 {p q : ℕ} (a : Fin p) (b : Fin q) : (⟨2, ![p, q]⟩ : Shape).Idx := fun | 0 => a | 1 => b

/-- An index is that of its two coordinates. -/
theorem at2_eta {p q : ℕ} (j : (⟨2, ![p, q]⟩ : Shape).Idx) : at2 (j 0) (j 1) = j := by
  funext a; fin_cases a <;> rfl

/-- A reduction reads the elements of its fiber only. -/
theorem reduceFold_congr {s t : Shape} {α : Type} {axes : List (Fin s.rank)} (h : s.Reduces axes t) (f : α → α → α) (init : α)
    (x y : s.Idx → α) (j : t.Idx) (hxy : ∀ k, h.drop k = j → x k = y k) : reduceFold h f init x j = reduceFold h f init y j := by
  unfold reduceFold
  have : ∀ (l : List (Fin s.numel)) (a : α), (∀ n ∈ l, h.drop (s.rowMajor.symm n) = j) →
      l.foldl (fun r n => f r (x (s.rowMajor.symm n))) a = l.foldl (fun r n => f r (y (s.rowMajor.symm n))) a := by
    intro l
    induction l with
    | nil => intros; rfl
    | cons n l ih =>
      intro a hl
      simp only [List.foldl_cons]
      rw [hxy _ (hl n List.mem_cons_self)]
      exact ih _ fun n' hn' => hl n' (List.mem_cons_of_mem _ hn')
  exact this _ _ fun n hn => by simpa using (List.mem_filter.mp hn).2

/-- So does a minimum. -/
theorem minReduce_congr {s t : Shape} {φ : FTy} {axes : List (Fin s.rank)} (x y : FVec F s φ) (acc : BitVec φ.bits) (h : s.Reduces axes t) (hφ : FKind.Formats φ)
    (hacc : acc = FKind.minimumf.neutral φ hφ) (j : t.Idx) (hxy : ∀ k, h.drop k = j → x k = y k) :
    multiReduction .minimumf axes t x acc h hφ hacc j = multiReduction .minimumf axes t y acc h hφ hacc j :=
  reduceFold_congr h _ _ x y j hxy

/-- The ensemble minimum at a row and lane reads that row and lane only. -/
theorem pay10_congr (x y : Vec F S4x1024x128 .f32) (j : S1024x128.Idx) (h : ∀ k : S4x1024x128.Idx, (k 1).val = (j 0).val → x k = y k) :
    k0_pay10 x j = k0_pay10 y j := by
  unfold k0_pay10
  simp only [shapeCast_self]
  refine minReduce_congr _ _ _ _ _ _ _ fun k hk => h k ?_
  rw [← hk]
  exact (reduces_S4x1024x128_S1024x128.drop_apply_val_of_eq k 0 1).symm

/-- What a scan point keeps is its block's ensemble minimum. -/
theorem pay11_eq (x : Vec F S4x1024x128 .f32) : k0_pay11 x = k0_pay10 x := by
  unfold k0_pay11; simp only [shapeCast_self]

/-- The row index a lane carries: its row of the whole array. -/
theorem pay12_apply (n : ℕ) (hn : n < 147) (j : S1024x128.Idx) : k0_pay12 (BitVec.ofNat 32 n) j = BitVec.ofNat 32 (1024 * n + (j 0).val) := by
  have h : (j 0).val < 1024 := (j 0).isLt
  unfold k0_pay12
  show IntOp.addi (BitVec.ofNat 32 (0 * 1024 + (j 0).val)) (IntOp.muli (BitVec.ofNat 32 n) 1024#32) = _
  apply BitVec.eq_of_toNat_eq
  simp only [IntOp.addi, IntOp.muli, BitVec.toNat_add, BitVec.toNat_mul, BitVec.toNat_ofNat]
  omega

/-- The masked minima of two blocks that agree on the rows inside the array are the same. -/
theorem pay13_congr (n : ℕ) (hn : n < 147) (x y : Vec F S4x1024x128 .f32)
    (h : ∀ k : S4x1024x128.Idx, 1024 * n + (k 1).val < 100000 → x k = y k) : k0_pay13 (BitVec.ofNat 32 n) x = k0_pay13 (BitVec.ofNat 32 n) y := by
  unfold k0_pay13
  dsimp only
  refine congrArg (fun v => shapeCast S128x8x128 v shapeCasts_S1024x128_S128x8x128) ?_
  funext j
  have hj : (j 0).val < 1024 := (j 0).isLt
  simp only [select]
  by_cases hc : 1024 * n + (j 0).val < 100000
  · rw [pay10_congr x y j fun k hk => h k (by omega)]
  · have : cmpi .slt (k0_pay12 (BitVec.ofNat 32 n)) (broadcast S1024x128 100000#32) j = 0#1 := by
      show IntOp.cmpi .slt (k0_pay12 (BitVec.ofNat 32 n) j) 100000#32 = 0#1
      rw [pay12_apply n hn]
      have ha : (BitVec.ofNat 32 (1024 * n + (j 0).val)).toInt = ((1024 * n + (j 0).val : ℕ) : ℤ) := by
        rw [BitVec.toInt_eq_toNat_of_lt] <;> simp only [BitVec.toNat_ofNat] <;> omega
      have hb : (100000#32).toInt = 100000 := by decide
      simp only [IntOp.cmpi, BitVec.slt, ha, hb]
      rw [decide_eq_false (by omega)]; rfl
    rw [this]; unfold Scalar.select; rw [if_neg (by decide), if_neg (by decide)]

/-- The three steps are functions of the masked minima. -/
theorem step_congr (i : grid0.Coords) (x y : Vec F S4x1024x128 .f32) (M S : Vec F S8x128 .f32) (I : Vec F S8x128 .i32)
    (h : k0_pay13 (gw i) x = k0_pay13 (gw i) y) :
    stepM i x M = stepM i y M ∧ stepS i x M S = stepS i y M S ∧ stepI i x M I = stepI i y M I := by
  have h14 : k0_pay14 (gw i) x = k0_pay14 (gw i) y := by unfold k0_pay14; rw [h]
  have h15 : k0_pay15 (gw i) x = k0_pay15 (gw i) y := by unfold k0_pay15; rw [h, h14]
  have h16 : k0_pay16 (gw i) x M = k0_pay16 (gw i) y M := by unfold k0_pay16; rw [h14]
  have h17 : k0_pay17 (gw i) x M S = k0_pay17 (gw i) y M S := by unfold k0_pay17; rw [h, h16]
  exact ⟨by unfold stepM; rw [h16], h17, by unfold stepI; rw [h14, h15]⟩

/-! ## The input blocks and the running values -/

/-- The input block scanned at point `t`, its rows past the array's end at zero. -/
def xblk (c : Dev nD) (t : Fin cfg0.N) : Vec F S4x1024x128 .f32 :=
  win0_0.fill (grid0.coords t) (fun _ => Scalar.ofBits .f32 0#32) (iblk m c 0 t)

/-- The running maxima after `n` points. -/
def accM (c : Dev nD) : ℕ → Vec F S8x128 .f32
  | 0 => k0_pay1
  | n + 1 => if h : n < 98 then stepM (grid0.coords ⟨n, by rw [N_0]; omega⟩) (xblk m c ⟨n, by rw [show cfg0.N = 147 from N_0]; omega⟩) (accM c n) else accM c n
/-- The running sums after `n` points. -/
def accS (c : Dev nD) : ℕ → Vec F S8x128 .f32
  | 0 => k0_pay2
  | n + 1 => if h : n < 98 then stepS (grid0.coords ⟨n, by rw [N_0]; omega⟩) (xblk m c ⟨n, by rw [show cfg0.N = 147 from N_0]; omega⟩) (accM m c n) (accS c n) else accS c n
/-- The running indices after `n` points. -/
def accI (c : Dev nD) : ℕ → Vec F S8x128 .i32
  | 0 => k0_pay3
  | n + 1 => if h : n < 98 then stepI (grid0.coords ⟨n, by rw [N_0]; omega⟩) (xblk m c ⟨n, by rw [show cfg0.N = 147 from N_0]; omega⟩) (accM m c n) (accI c n) else accI c n

/-- A scan point steps the running values, whatever its buffer holds past the array's end. -/
theorem acc_succ (c : Dev nD) (t : Fin cfg0.N) (ht : t.val < 98) (d : Vec F S4x1024x128 .f32) :
    stepM (grid0.coords t) (win0_0.fill (grid0.coords t) d (iblk m c 0 t)) (accM m c t.val) = accM m c (t.val + 1)
    ∧ stepS (grid0.coords t) (win0_0.fill (grid0.coords t) d (iblk m c 0 t)) (accM m c t.val) (accS m c t.val) = accS m c (t.val + 1)
    ∧ stepI (grid0.coords t) (win0_0.fill (grid0.coords t) d (iblk m c 0 t)) (accM m c t.val) (accI m c t.val) = accI m c (t.val + 1) := by
  have hc : ((grid0.coords t) 0).val = t.val := coord_val t
  have h13 : k0_pay13 (gw (grid0.coords t)) (win0_0.fill (grid0.coords t) d (iblk m c 0 t)) = k0_pay13 (gw (grid0.coords t)) (xblk m c t) :=
    pay13_congr _ (by rw [hc]; omega) _ _ fun k hk => fill0_congr _ (by rw [hc]; omega) _ _ _ _ hk
  rw [accM, accS, accI, dif_pos ht, dif_pos ht, dif_pos ht]
  exact step_congr _ _ _ _ _ _ h13

/-- After the scan the running values stay. -/
theorem acc_done (c : Dev nD) (n : ℕ) (hn : 98 ≤ n) : accM m c (n + 1) = accM m c n ∧ accS m c (n + 1) = accS m c n ∧ accI m c (n + 1) = accI m c n := by
  rw [accM, accS, accI, dif_neg (by omega), dif_neg (by omega), dif_neg (by omega)]; exact ⟨rfl, rfl, rfl⟩

/-- They are those of the end of the scan. -/
theorem acc_const (c : Dev nD) (n : ℕ) (hn : 98 ≤ n) : accM m c n = accM m c 98 ∧ accS m c n = accS m c 98 ∧ accI m c n = accI m c 98 := by
  induction n, hn using Nat.le_induction with
  | base => exact ⟨rfl, rfl, rfl⟩
  | succ n hn ih => have := acc_done m c n hn; rw [this.1, this.2.1, this.2.2]; exact ih

/-- The ensemble minimum at row `a` of the array and lane `b`, as the scan of `a`'s block computes it. -/
def keptAt (c : Dev nD) (a : ℕ) (ha : a < 100000) (b : Fin 128) : Elt F .f32 :=
  k0_pay11 (xblk m c ⟨a / 1024, by rw [show cfg0.N = 147 from N_0]; omega⟩) (at2 (⟨a % 1024, by omega⟩ : Fin 1024) b)

/-- The rows scanned before point `n` are kept. -/
def Kept (c : Dev nD) (n : ℕ) (Q : Vec F S100352x128 .f32) : Prop :=
  ∀ (a : ℕ) (ha : a < 100000) (b : Fin 128), a < 1024 * n → Q (at2 (⟨a, by omega⟩ : Fin 100352) b) = keptAt m c a ha b

/-- Before the first point nothing is kept. -/
theorem Kept.zero (c : Dev nD) (Q : Vec F S100352x128 .f32) : Kept m c 0 Q := fun a ha b h => by omega

/-- A scan point keeps its block's rows, and the earlier ones. -/
theorem Kept.step (c : Dev nD) (t : Fin cfg0.N) (h2 : k0_cond2 (grid0.coords t) = 1#1) (d : Vec F S4x1024x128 .f32)
    (Q : Vec F S100352x128 .f32) (hQ : Kept m c t.val Q) :
    Kept m c (t.val + 1) (stepQ (grid0.coords t) h2 (win0_0.fill (grid0.coords t) d (iblk m c 0 t)) Q) := by
  have hc : ((grid0.coords t) 0).val = t.val := coord_val t
  have hc2 : ((grid0.coords t) 0).val < 98 := (cond2_iff _).mp h2
  intro a ha b hab
  have ho0 : (k0_off1 (grid0.coords t)) 0 = 1024 * t.val := by rw [k0_off1_eq, ← hc]; rfl
  have ho1 : (k0_off1 (grid0.coords t)) 1 = 0 := by rw [k0_off1_eq]; rfl
  by_cases hlt : a < 1024 * t.val
  · rw [← hQ a ha b hlt]
    refine Rect.overlay_of_not_mem _ _ _ ?_
    intro hmem
    have := (Rect.mem_set_unit.mp hmem 0).1
    rw [ho0] at this
    have : 1024 * t.val ≤ a := this
    omega
  · have hat : a / 1024 = t.val := by omega
    have hemb : (Rect.unit (s := S100352x128) (k0_off1 (grid0.coords t)) S1024x128.size (k0_off1_inb _ h2)).emb
        (at2 (⟨a % 1024, by omega⟩ : Fin 1024) b) = at2 (⟨a, by omega⟩ : Fin 100352) b := by
      funext x
      apply Fin.ext
      rw [Rect.emb_apply]
      fin_cases x
      · show (k0_off1 (grid0.coords t)) 0 + 1 * (a % 1024) = a
        rw [ho0]; omega
      · show (k0_off1 (grid0.coords t)) 1 + 1 * b.val = b.val
        rw [ho1]; omega
    unfold stepQ
    rw [← hemb, Rect.overlay_emb]
    unfold keptAt
    have ht : (⟨a / 1024, by rw [show cfg0.N = 147 from N_0]; omega⟩ : Fin cfg0.N) = t := Fin.ext hat
    rw [ht, pay11_eq, pay11_eq]
    refine pay10_congr _ _ _ fun k hk => fill0_congr _ hc2 _ _ _ _ ?_
    rw [hk, hc]
    show 1024 * t.val + a % 1024 < 100000
    omega

/-- After the scan all rows are kept. -/
theorem Kept.mono (c : Dev nD) (n n' : ℕ) (hn : 98 ≤ n) (Q : Vec F S100352x128 .f32) (hQ : Kept m c n Q) : Kept m c n' Q :=
  fun a ha b _ => hQ a ha b (by omega)

/-- The normalizer, and the index, as the last scan point stores them. -/
def normv (c : Dev nD) : Vec F S8x128 .f32 := k0_pay7 (accM m c 98) (accS m c 98)
/-- The index, as the last scan point stores it. -/
def bestv (c : Dev nD) : Vec F S8x128 .i32 := k0_pay8 (accM m c 98) (accI m c 98)

/-- The block of rows an emitting point leaves, its rows past the array's end at zero less the normalizer. -/
def outblk (c : Dev nD) (t : Fin cfg0.N) : Vec F S2048x128 .f32 :=
  k0_pay9 (fun j => if h : 2048 * (t.val - 98) + (j 0).val < 100000 then keptAt m c _ h (j 1) else Scalar.ofBits .f32 0#32)
    (fun j => normv m c ((Rect.unit (s := S8x128) ![0, 0] S1x128.size inb_S8x128_S1x128_0_0).emb j))

/-- An emitting point's rows inside the array are those. -/
theorem emitted_cut (c : Dev nD) (t : Fin cfg0.N) (h4 : k0_cond4 (grid0.coords t) = 1#1) (Q : Vec F S100352x128 .f32) (hQ : Kept m c 98 Q) :
    win0_1.cut (grid0.coords t) (emitted (grid0.coords t) h4 Q (normv m c)) = win0_1.cut (grid0.coords t) (outblk m c t) := by
  have hc : ((grid0.coords t) 0).val = t.val := coord_val t
  have h98 : 98 ≤ ((grid0.coords t) 0).val := (cond4_iff _).mp h4
  funext j
  have hj : (j 0).val < min 2048 (100000 - 2048 * (((grid0.coords t) 0).val - 98)) := by
    have := (j 0).isLt
    have e : win0_1.xsize (grid0.coords t) 0 = min 2048 (100000 - 2048 * (((grid0.coords t) 0).val - 98)) := by rw [xsize1_eq]; rfl
    rw [← e]; exact this
  have hj' : 2048 * (t.val - 98) + ((win0_1.xinj (grid0.coords t) j) 0).val < 100000 := by
    show 2048 * (t.val - 98) + (j 0).val < 100000
    rw [hc] at hj; omega
  unfold outblk emitted k0_pay9
  show FloatOps.subf _ _ = FloatOps.subf _ _
  congr 1
  refine Eq.trans ?_ (dif_pos hj').symm
  refine Eq.trans ?_ (hQ _ hj' _ (by omega))
  refine congrArg Q ?_
  funext x
  apply Fin.ext
  rw [Rect.emb_apply]
  have ho := off2_eq _ h4
  fin_cases x
  · show (k0_off2 (grid0.coords t)) 0 + 1 * (j 0).val = 2048 * (t.val - 98) + (j 0).val
    rw [ho, ← hc]; show 2048 * _ + _ = _; omega
  · show (k0_off2 (grid0.coords t)) 1 + 1 * (j 1).val = (j 1).val
    rw [ho]; show 0 + _ = _; omega

end Cert.KernelIdeal.Hand

end
-- ==== Proof.Data.lean ====
module

public import proofs.«01_k».proof.Proof.Gen.KernelIdeal.Frame
public import proofs.«01_k».proof.Proof.Gen.KernelIdeal.Skeleton
public import proofs.«01_k».proof.Proof.Facts

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the run holds at each point -/

/-- Before point `n`: the scratch array keeps the rows scanned so far, and the three running values are those after `n`
    points (before the first point they hold anything). -/
def PhiS (c : Dev nD) (n : ℕ) : sProp 𝕄 :=
  iprop((∃ Q, ⌜Kept m c n Q⌝ ∗ owns (c : Thread nD τ) (Memref.whole cc0_scratch0) fullShare Q)
    ∗ (∃ M, ⌜n ≠ 0 → M = accM m c n⌝ ∗ owns (c : Thread nD τ) (Memref.whole cc0_scratch1) fullShare M)
    ∗ (∃ S, ⌜n ≠ 0 → S = accS m c n⌝ ∗ owns (c : Thread nD τ) (Memref.whole cc0_scratch2) fullShare S)
    ∗ (∃ I, ⌜n ≠ 0 → I = accI m c n⌝ ∗ owns (c : Thread nD τ) (Memref.whole cc0_scratch3) fullShare I)
    ∗ ∃ r, prngReg c r)

/-- The proof data: the arrays at the region's entry, what each point leaves, and what it holds between points. -/
abbrev dats (_ : Fin 1) (c : Dev nD) : Dat τ (Elt F) Unit ℕ (UR sig nD τ) ℕ cfg0 c where
  A w := V m c (Pipeline.arrRef spec0 w)
  after w t := match w with
    | ⟨0, _⟩ => xblk m c t
    | ⟨1, _⟩ => outblk m c t
    | ⟨2, _⟩ => normv m c
    | ⟨3, _⟩ => bestv m c
  Φ t := PhiS m c t.val
  q := fun _ => fullShare
  owed := 0

theorem phi_in (c : Dev nD) : Pipeline.ΦA spec0 c ⊢ (PhiS m c 0 : sProp 𝕄) := by
  unfold Pipeline.ΦA PhiS
  rw [scopedRest0_eq]
  simp only [owns_whole]
  iintro ⟨⟨⟨%f0, H0⟩, ⟨%f1, H1⟩, ⟨%f2, H2⟩, ⟨%f3, H3⟩⟩, Hp⟩
  isplitl [H0]
  · iexists f0; isplitr; · ipureintro; exact Kept.zero m c _
    iexact H0
  isplitl [H1]
  · iexists f1; isplitr; · ipureintro; exact fun h => absurd rfl h
    iexact H1
  isplitl [H2]
  · iexists f2; isplitr; · ipureintro; exact fun h => absurd rfl h
    iexact H2
  isplitl [H3]
  · iexists f3; isplitr; · ipureintro; exact fun h => absurd rfl h
    iexact H3
  iexact Hp

theorem phi_out (c : Dev nD) (n : ℕ) : (PhiS m c n : sProp 𝕄) ⊢ Pipeline.ΦA spec0 c := by
  unfold Pipeline.ΦA PhiS
  rw [scopedRest0_eq]
  simp only [owns_whole]
  iintro ⟨⟨%f0, -, H0⟩, ⟨%f1, -, H1⟩, ⟨%f2, -, H2⟩, ⟨%f3, -, H3⟩, Hp⟩
  isplitr [Hp]
  · isplitl [H0]; · iexists f0; iexact H0
    isplitl [H1]; · iexists f1; iexact H1
    isplitl [H2]; · iexists f2; iexact H2
    iexists f3; iexact H3
  iexact Hp

/-! ## What a point finds in its buffers -/

theorem clip0_eq' : ∀ t : Fin grid0.N, ∀ a, win0_0.clip (grid0.coords t) a = win0_0.clip (grid0.coords ⟨min t.val 97, by have := N_0; omega⟩) a := by
  decide +kernel
theorem clip0_eq (t : Fin grid0.N) : win0_0.clip (grid0.coords t) = win0_0.clip (grid0.coords ⟨min t.val 97, by have := N_0; omega⟩) :=
  funext (clip0_eq' t)

/-- The input's buffer holds its block, and past the array's end anything. -/
theorem before_0 (c : Dev nD) (t : Fin cfg0.N) (d) :
    (dats m 0 c).before 0 t d = win0_0.fill (grid0.coords t) d (iblk m c 0 t) := by
  refine (Pipeline.Dat.before_in_eq_fetched (dats m 0 c) 0 rfl (fun _ => rfl) ?_ ?_ t d).trans ?_
  · intro t t' h
    have e : min t.val 97 = min t'.val 97 := by
      have h1 : cc0_transform_0 (grid0.coords t) = cc0_transform_0 (grid0.coords t') := h
      rw [index0_eq, index0_eq, show ((grid0.coords t) 0).val = t.val from coord_val t,
        show ((grid0.coords t') 0).val = t'.val from coord_val t'] at h1
      exact congrFun h1 1
    show win0_0.clip (grid0.coords t) = win0_0.clip (grid0.coords t')
    rw [clip0_eq t, clip0_eq t']
    simp only [e]
  · intro t; exact win0_0.cut_fill _ _ _
  · rfl

theorem flush2 : ∀ t : Fin cfg0.N, (cfg0.win 2).flush t = decide (t.val = 146) :=
  (by decide +kernel : ∀ t : Fin grid0.N, win0_2.flush t = decide (t.val = 146))
theorem flush3 : ∀ t : Fin cfg0.N, (cfg0.win 3).flush t = decide (t.val = 146) :=
  (by decide +kernel : ∀ t : Fin grid0.N, win0_3.flush t = decide (t.val = 146))
theorem flush1' (t : Fin cfg0.N) (h : t.val < 98) : (cfg0.win 1).flush t = false :=
  Bool.eq_false_iff.mpr fun hf => by have := (flush1 t).mp hf; omega

theorem kept_2 (c : Dev nD) (t : Fin cfg0.N) (d) : (dats m 0 c).kept 2 t d = normv m c := by
  unfold Pipeline.Dat.kept
  rw [Pipeline.fill_of_clip_none (cfg := cfg0) 2 _ (fun _ => rfl) d ((dats m 0 c).after 2 t)]
  exact Pipeline.Window.fill_cut _ _ _
theorem kept_3 (c : Dev nD) (t : Fin cfg0.N) (d) : (dats m 0 c).kept 3 t d = bestv m c := by
  unfold Pipeline.Dat.kept
  rw [Pipeline.fill_of_clip_none (cfg := cfg0) 3 _ (fun _ => rfl) d ((dats m 0 c).after 3 t)]
  exact Pipeline.Window.fill_cut _ _ _

/-- Past the last scan point the two small windows' buffers hold what it stored. -/
theorem before_23 (c : Dev nD) (n : ℕ) (h98 : 98 ≤ n) : ∀ (hn : n < cfg0.N),
    (∀ d, (dats m 0 c).before 2 ⟨n, hn⟩ d = normv m c) ∧ ∀ d, (dats m 0 c).before 3 ⟨n, hn⟩ d = bestv m c := by
  induction n, h98 using Nat.le_induction with
  | base =>
    intro hn
    refine ⟨fun d => ?_, fun d => ?_⟩
    · rw [Pipeline.Dat.before_of_pos (dats m 0 c) 2 ⟨98, hn⟩ (show 98 ≠ 0 by decide) rfl d, flush2, if_neg (by decide +revert)]
      unfold Pipeline.Dat.left
      rw [idle2]
      exact kept_2 m c _ _
    · rw [Pipeline.Dat.before_of_pos (dats m 0 c) 3 ⟨98, hn⟩ (show 98 ≠ 0 by decide) rfl d, flush3, if_neg (by decide +revert)]
      unfold Pipeline.Dat.left
      rw [idle3]
      exact kept_3 m c _ _
  | succ n h ih =>
    intro hn
    have hN : n + 1 < 147 := hn.trans_eq N_0
    have hi : decide (n ≠ 97) = true := decide_eq_true (by omega)
    have hf : decide (n = 146) = false := decide_eq_false (by omega)
    refine ⟨fun d => ?_, fun d => ?_⟩
    · rw [Pipeline.Dat.before_of_pos (dats m 0 c) 2 ⟨n + 1, hn⟩ (Nat.succ_ne_zero n) rfl d, flush2]
      simp only [Nat.add_sub_cancel, hf, Bool.false_eq_true, if_false]
      unfold Pipeline.Dat.left
      rw [idle2]
      simp only [hi]
      exact (ih (by omega)).1 d
    · rw [Pipeline.Dat.before_of_pos (dats m 0 c) 3 ⟨n + 1, hn⟩ (Nat.succ_ne_zero n) rfl d, flush3]
      simp only [Nat.add_sub_cancel, hf, Bool.false_eq_true, if_false]
      unfold Pipeline.Dat.left
      rw [idle3]
      simp only [hi]
      exact (ih (by omega)).2 d

theorem before_2 (c : Dev nD) (t : Fin cfg0.N) (h : 98 ≤ t.val) (d) : (dats m 0 c).before 2 t d = normv m c := (before_23 m c t.val h t.isLt).1 d
theorem before_3 (c : Dev nD) (t : Fin cfg0.N) (h : 98 ≤ t.val) (d) : (dats m 0 c).before 3 t d = bestv m c := (before_23 m c t.val h t.isLt).2 d

/-! ## What a point leaves -/

theorem leaves_0 (c : Dev nD) (t : Fin cfg0.N) (d) :
    owns (c : Thread nD τ) ((cfg0.win 0).stage (cfg0.slots t 0)) fullShare (win0_0.fill (grid0.coords t) d (iblk m c 0 t)) ⊢ (dats m 0 c).leaves 0 t := by
  unfold Pipeline.Dat.leaves
  have hi : cfg0.idle 0 (cfg0.grid.coords t) = false := rfl
  have hl : cfg0.loose 0 = true := rfl
  rw [hi, hl]
  have hx : win0_0.cut (grid0.coords t) (xblk m c t) = iblk m c 0 t := win0_0.cut_fill _ _ _
  iintro H
  iexists d
  change _ ⊢ owns (c : Thread nD τ) ((cfg0.win 0).stage (cfg0.slots t 0)) fullShare (win0_0.fill (grid0.coords t) d (win0_0.cut (grid0.coords t) (xblk m c t)))
  rw [hx]; try iexact H

theorem leaves_1 (c : Dev nD) (t : Fin cfg0.N) (ht : 98 ≤ t.val) (X) (hX : win0_1.cut (grid0.coords t) X = win0_1.cut (grid0.coords t) (outblk m c t)) :
    owns (c : Thread nD τ) ((cfg0.win 1).stage (cfg0.slots t 1)) fullShare X ⊢ (dats m 0 c).leaves 1 t := by
  unfold Pipeline.Dat.leaves
  have hi : cfg0.idle 1 (cfg0.grid.coords t) = false := (idle1 t).trans (decide_eq_false (by omega))
  have hl : cfg0.loose 1 = true := rfl
  rw [hi, hl]
  iintro H
  iexists X
  change _ ⊢ owns (c : Thread nD τ) ((cfg0.win 1).stage (cfg0.slots t 1)) fullShare (win0_1.fill (grid0.coords t) X (win0_1.cut (grid0.coords t) (outblk m c t)))
  rw [← hX, win0_1.fill_cut]; try iexact H

/-- At a live point of a window whose blocks tile its array, and at one that writes the block back, what is left is what
    the data say. -/
theorem leaves_live {c : Dev nD} (D : Dat τ (Elt F) Unit ℕ (UR sig nD τ) ℕ cfg0 c) (w : Fin cfg0.W) (t : Fin cfg0.N)
    (hi : cfg0.idle w (cfg0.grid.coords t) = false) (hl : cfg0.loose w = false) :
    D.leaves w t = owns (c : Thread nD τ) ((cfg0.win w).stage (cfg0.slots t w)) fullShare (D.after w t) := by
  unfold Pipeline.Dat.leaves; rw [hi, hl]
theorem leaves_flushed {c : Dev nD} (D : Dat τ (Elt F) Unit ℕ (UR sig nD τ) ℕ cfg0 c) (w : Fin cfg0.W) (t : Fin cfg0.N)
    (hi : cfg0.idle w (cfg0.grid.coords t) = true) (hf : (cfg0.win w).flush t = true) (hl : cfg0.loose w = false) :
    D.leaves w t = owns (c : Thread nD τ) ((cfg0.win w).stage (cfg0.slots t w)) fullShare (D.after w t) := by
  unfold Pipeline.Dat.leaves; rw [hi, hf, hl]

theorem leaves_23_stored (c : Dev nD) (t : Fin cfg0.N) (ht : t.val = 97) :
    (dats m 0 c).leaves 2 t = owns (c : Thread nD τ) ((cfg0.win 2).stage (cfg0.slots t 2)) fullShare (normv m c)
    ∧ (dats m 0 c).leaves 3 t = owns (c : Thread nD τ) ((cfg0.win 3).stage (cfg0.slots t 3)) fullShare (bestv m c) := by
  have h2 : cfg0.idle 2 (cfg0.grid.coords t) = false := (idle2 t).trans (decide_eq_false (by omega))
  have h3 : cfg0.idle 3 (cfg0.grid.coords t) = false := (idle3 t).trans (decide_eq_false (by omega))
  exact ⟨leaves_live _ 2 t h2 rfl, leaves_live _ 3 t h3 rfl⟩

theorem leaves_23_past (c : Dev nD) (t : Fin cfg0.N) (ht : 98 ≤ t.val) :
    (owns (c : Thread nD τ) ((cfg0.win 2).stage (cfg0.slots t 2)) fullShare (normv m c) ⊢ (dats m 0 c).leaves 2 t)
    ∧ (owns (c : Thread nD τ) ((cfg0.win 3).stage (cfg0.slots t 3)) fullShare (bestv m c) ⊢ (dats m 0 c).leaves 3 t) := by
  have h2 : cfg0.idle 2 (cfg0.grid.coords t) = true := (idle2 t).trans (decide_eq_true (by omega))
  have h3 : cfg0.idle 3 (cfg0.grid.coords t) = true := (idle3 t).trans (decide_eq_true (by omega))
  have l2 : cfg0.loose 2 = false := rfl
  have l3 : cfg0.loose 3 = false := rfl
  by_cases h : t.val = 146
  · have f2 : (cfg0.win 2).flush t = true := (flush2 t).trans (decide_eq_true h)
    have f3 : (cfg0.win 3).flush t = true := (flush3 t).trans (decide_eq_true h)
    rw [leaves_flushed _ 2 t h2 f2 l2, leaves_flushed _ 3 t h3 f3 l3]
    exact ⟨.rfl, .rfl⟩
  · have f2 : (cfg0.win 2).flush t = false := (flush2 t).trans (decide_eq_false h)
    have f3 : (cfg0.win 3).flush t = false := (flush3 t).trans (decide_eq_false h)
    rw [Pipeline.Dat.leaves_idle _ 2 t h2 f2, Pipeline.Dat.leaves_idle _ 3 t h3 f3]
    constructor
    · iintro H; iexists (normv m c); rw [before_2 m c t ht]; iexact H
    · iintro H; iexists (bestv m c); rw [before_3 m c t ht]; iexact H

theorem leaves_1_idle (c : Dev nD) (t : Fin cfg0.N) (ht : t.val < 98) :
    (dats m 0 c).leaves 1 t = iprop(∃ d, owns (c : Thread nD τ) ((cfg0.win 1).stage (cfg0.slots t 1)) fullShare ((dats m 0 c).before 1 t d)) :=
  Pipeline.Dat.leaves_idle _ 1 t ((idle1 t).trans (decide_eq_true ht)) (flush1' t ht)
theorem leaves_2_idle (c : Dev nD) (t : Fin cfg0.N) (ht : t.val < 97) :
    (dats m 0 c).leaves 2 t = iprop(∃ d, owns (c : Thread nD τ) ((cfg0.win 2).stage (cfg0.slots t 2)) fullShare ((dats m 0 c).before 2 t d)) :=
  Pipeline.Dat.leaves_idle _ 2 t ((idle2 t).trans (decide_eq_true (by omega))) ((flush2 t).trans (decide_eq_false (by omega)))
theorem leaves_3_idle (c : Dev nD) (t : Fin cfg0.N) (ht : t.val < 97) :
    (dats m 0 c).leaves 3 t = iprop(∃ d, owns (c : Thread nD τ) ((cfg0.win 3).stage (cfg0.slots t 3)) fullShare ((dats m 0 c).before 3 t d)) :=
  Pipeline.Dat.leaves_idle _ 3 t ((idle3 t).trans (decide_eq_true (by omega))) ((flush3 t).trans (decide_eq_false (by omega)))

/-! ## The body at a point -/

/-- What the body at a point is handed, and what it hands back. -/
abbrev handed (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d)))
abbrev handedBack (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

/-- The first point. -/
theorem body_first (c : Dev nD) (t : Fin cfg0.N) (ht : t.val = 0) :
    handed m c t ⊢ wp frame (wpE (defs₀ (F := F)) Variants.none c none) Set.univ (bodyAt0 t) fun _ => handedBack m c t := by
  have hc : ((grid0.coords t) 0).val = t.val := coord_val t
  have h1 : isFirst (grid0.coords t) := (isFirst_iff _).mpr (by omega)
  have h2 : k0_cond2 (grid0.coords t) = 1#1 := (cond2_iff _).mpr (by omega)
  have h3 : ¬ k0_cond3 (grid0.coords t) = 1#1 := fun h => by have := (cond3_iff _).mp h; omega
  have h4 : ¬ k0_cond4 (grid0.coords t) = 1#1 := fun h => by have := (cond4_iff _).mp h; omega
  unfold handed handedBack
  rw [leaves_1_idle m c t (by omega), leaves_2_idle m c t (by omega), leaves_3_idle m c t (by omega),
    show (dats m 0 c).owesAt () t.succ = (dats m 0 c).owesAt () t.castSucc from rfl,
    show (dats m 0 c).Φ t.castSucc = PhiS m c t.val from rfl, show (dats m 0 c).Φ t.succ = PhiS m c (t.val + 1) from rfl]
  unfold PhiS
  iintro ⟨⟨⟨%Q, %hQ, HQ⟩, ⟨%M, -, HM⟩, ⟨%S, -, HS⟩, ⟨%I, -, HI⟩, Hp⟩, Ho, ⟨%d0, H0⟩, H1, H2, H3⟩
  rw [before_0 m c t d0]
  have hacc := acc_succ m c t (by omega) d0
  rw [ht] at hacc
  iapply (run_first (F := F) (grid0.coords t) _ _ _ _ _ _ _ _ _ _ _ _ _ _ _ _ c h1 h2 h3 h4
    (win0_0.fill (grid0.coords t) d0 (iblk m c 0 t)) Q M S I)
  isplitl [H0]; · iexact H0
  isplitl [HQ]; · iexact HQ
  isplitl [HM]; · iexact HM
  isplitl [HS]; · iexact HS
  isplitl [HI]; · iexact HI
  iintro ⟨H0, HQ, HM, HS, HI⟩
  isplitr [Ho H0 H1 H2 H3]
  · isplitl [HQ]
    · iexists _; isplitr; swap; · iexact HQ
      ipureintro; exact Kept.step m c t h2 d0 Q hQ
    isplitl [HM]
    · iexists _; isplitr; swap; · iexact HM
      ipureintro; intro _; rw [ht]; exact hacc.1
    isplitl [HS]
    · iexists _; isplitr; swap; · iexact HS
      ipureintro; intro _; rw [ht]; exact hacc.2.1
    isplitl [HI]
    · iexists _; isplitr; swap; · iexact HI
      ipureintro; intro _; rw [ht]; exact hacc.2.2
    iexact Hp
  isplitl [Ho]; · iexact Ho
  isplitl [H0]; · iapply (leaves_0 m c t d0); iexact H0
  isplitl [H1]; · iexact H1
  isplitl [H2]; · iexact H2
  iexact H3

/-- The scan points between the first and the last. -/
theorem body_scan (c : Dev nD) (t : Fin cfg0.N) (ht : t.val ≠ 0) (ht' : t.val < 97) :
    handed m c t ⊢ wp frame (wpE (defs₀ (F := F)) Variants.none c none) Set.univ (bodyAt0 t) fun _ => handedBack m c t := by
  have hc : ((grid0.coords t) 0).val = t.val := coord_val t
  have h1 : ¬ isFirst (grid0.coords t) := fun h => by have := (isFirst_iff _).mp h; omega
  have h2 : k0_cond2 (grid0.coords t) = 1#1 := (cond2_iff _).mpr (by omega)
  have h3 : ¬ k0_cond3 (grid0.coords t) = 1#1 := fun h => by have := (cond3_iff _).mp h; omega
  have h4 : ¬ k0_cond4 (grid0.coords t) = 1#1 := fun h => by have := (cond4_iff _).mp h; omega
  unfold handed handedBack
  rw [leaves_1_idle m c t (by omega), leaves_2_idle m c t (by omega), leaves_3_idle m c t (by omega),
    show (dats m 0 c).owesAt () t.succ = (dats m 0 c).owesAt () t.castSucc from rfl,
    show (dats m 0 c).Φ t.castSucc = PhiS m c t.val from rfl, show (dats m 0 c).Φ t.succ = PhiS m c (t.val + 1) from rfl]
  unfold PhiS
  iintro ⟨⟨⟨%Q, %hQ, HQ⟩, ⟨%M, %hM, HM⟩, ⟨%S, %hS, HS⟩, ⟨%I, %hI, HI⟩, Hp⟩, Ho, ⟨%d0, H0⟩, H1, H2, H3⟩
  rw [before_0 m c t d0]
  have hacc := acc_succ m c t (by omega) d0
  rw [← hM ht, ← hS ht, ← hI ht] at hacc
  iapply (run_scan (F := F) (grid0.coords t) _ _ _ _ _ _ _ _ _ _ _ _ _ _ _ _ c h1 h2 h3 h4
    (win0_0.fill (grid0.coords t) d0 (iblk m c 0 t)) Q M S I)
  isplitl [H0]; · iexact H0
  isplitl [HQ]; · iexact HQ
  isplitl [HM]; · iexact HM
  isplitl [HS]; · iexact HS
  isplitl [HI]; · iexact HI
  iintro ⟨H0, HQ, HM, HS, HI⟩
  isplitr [Ho H0 H1 H2 H3]
  · isplitl [HQ]
    · iexists _; isplitr; swap; · iexact HQ
      ipureintro; exact Kept.step m c t h2 d0 Q hQ
    isplitl [HM]
    · iexists _; isplitr; swap; · iexact HM
      ipureintro; intro _; exact hacc.1
    isplitl [HS]
    · iexists _; isplitr; swap; · iexact HS
      ipureintro; intro _; exact hacc.2.1
    isplitl [HI]
    · iexists _; isplitr; swap; · iexact HI
      ipureintro; intro _; exact hacc.2.2
    iexact Hp
  isplitl [Ho]; · iexact Ho
  isplitl [H0]; · iapply (leaves_0 m c t d0); iexact H0
  isplitl [H1]; · iexact H1
  isplitl [H2]; · iexact H2
  iexact H3

/-- The last scan point. -/
theorem body_last (c : Dev nD) (t : Fin cfg0.N) (ht : t.val = 97) :
    handed m c t ⊢ wp frame (wpE (defs₀ (F := F)) Variants.none c none) Set.univ (bodyAt0 t) fun _ => handedBack m c t := by
  have hc : ((grid0.coords t) 0).val = t.val := coord_val t
  have h1 : ¬ isFirst (grid0.coords t) := fun h => by have := (isFirst_iff _).mp h; omega
  have h2 : k0_cond2 (grid0.coords t) = 1#1 := (cond2_iff _).mpr (by omega)
  have h3 : k0_cond3 (grid0.coords t) = 1#1 := (cond3_iff _).mpr (by omega)
  have h4 : ¬ k0_cond4 (grid0.coords t) = 1#1 := fun h => by have := (cond4_iff _).mp h; omega
  unfold handed handedBack
  rw [leaves_1_idle m c t (by omega), (leaves_23_stored m c t ht).1, (leaves_23_stored m c t ht).2,
    show (dats m 0 c).owesAt () t.succ = (dats m 0 c).owesAt () t.castSucc from rfl,
    show (dats m 0 c).Φ t.castSucc = PhiS m c t.val from rfl, show (dats m 0 c).Φ t.succ = PhiS m c (t.val + 1) from rfl]
  unfold PhiS
  iintro ⟨⟨⟨%Q, %hQ, HQ⟩, ⟨%M, %hM, HM⟩, ⟨%S, %hS, HS⟩, ⟨%I, %hI, HI⟩, Hp⟩, Ho, ⟨%d0, H0⟩, H1, ⟨%d2, H2⟩, ⟨%d3, H3⟩⟩
  rw [before_0 m c t d0]
  have hacc := acc_succ m c t (by omega) d0
  rw [← hM (by omega), ← hS (by omega), ← hI (by omega)] at hacc
  have e98 : t.val + 1 = 98 := by omega
  iapply (run_last (F := F) (grid0.coords t) _ _ _ _ _ _ _ _ _ _ _ _ _ _ _ _ c h1 h2 h3 h4
    (win0_0.fill (grid0.coords t) d0 (iblk m c 0 t)) ((dats m 0 c).before 2 t d2) ((dats m 0 c).before 3 t d3) Q M S I)
  isplitl [H0]; · iexact H0
  isplitl [H2]; · iexact H2
  isplitl [H3]; · iexact H3
  isplitl [HQ]; · iexact HQ
  isplitl [HM]; · iexact HM
  isplitl [HS]; · iexact HS
  isplitl [HI]; · iexact HI
  rw [hacc.1, hacc.2.1, hacc.2.2]
  iintro ⟨H0, H2, H3, HQ, HM, HS, HI⟩
  isplitr [Ho H0 H1 H2 H3]
  · isplitl [HQ]
    · iexists _; isplitr; swap; · iexact HQ
      ipureintro; exact Kept.step m c t h2 d0 Q hQ
    isplitl [HM]
    · iexists _; isplitr; swap; · iexact HM
      ipureintro; intro _; rfl
    isplitl [HS]
    · iexists _; isplitr; swap; · iexact HS
      ipureintro; intro _; rfl
    isplitl [HI]
    · iexists _; isplitr; swap; · iexact HI
      ipureintro; intro _; rfl
    iexact Hp
  isplitl [Ho]; · iexact Ho
  isplitl [H0]; · iapply (leaves_0 m c t d0); iexact H0
  isplitl [H1]; · iexact H1
  rw [e98]
  isplitl [H2]; · iexact H2
  iexact H3

/-- The emitting points. -/
theorem body_emit (c : Dev nD) (t : Fin cfg0.N) (ht : 98 ≤ t.val) :
    handed m c t ⊢ wp frame (wpE (defs₀ (F := F)) Variants.none c none) Set.univ (bodyAt0 t) fun _ => handedBack m c t := by
  have hc : ((grid0.coords t) 0).val = t.val := coord_val t
  have h1 : ¬ isFirst (grid0.coords t) := fun h => by have := (isFirst_iff _).mp h; omega
  have h2 : ¬ k0_cond2 (grid0.coords t) = 1#1 := fun h => by have := (cond2_iff _).mp h; omega
  have h3 : ¬ k0_cond3 (grid0.coords t) = 1#1 := fun h => by have := (cond3_iff _).mp h; omega
  have h4 : k0_cond4 (grid0.coords t) = 1#1 := (cond4_iff _).mpr (by omega)
  unfold handed handedBack
  rw [show (dats m 0 c).owesAt () t.succ = (dats m 0 c).owesAt () t.castSucc from rfl,
    show (dats m 0 c).Φ t.castSucc = PhiS m c t.val from rfl, show (dats m 0 c).Φ t.succ = PhiS m c (t.val + 1) from rfl]
  unfold PhiS
  iintro ⟨⟨⟨%Q, %hQ, HQ⟩, ⟨%M, %hM, HM⟩, ⟨%S, %hS, HS⟩, ⟨%I, %hI, HI⟩, Hp⟩, Ho, ⟨%d0, H0⟩, ⟨%d1, H1⟩, ⟨%d2, H2⟩, ⟨%d3, H3⟩⟩
  rw [before_0 m c t d0, before_2 m c t ht d2, before_3 m c t ht d3]
  have hd := acc_done m c t.val ht
  iapply (run_emit (F := F) (grid0.coords t) _ _ _ _ _ _ _ _ _ _ _ _ _ _ _ _ c h1 h2 h3 h4
    ((dats m 0 c).before 1 t d1) (normv m c) Q)
  isplitl [H1]; · iexact H1
  isplitl [H2]; · iexact H2
  isplitl [HQ]; · iexact HQ
  iintro ⟨H1, H2, HQ⟩
  isplitr [Ho H0 H1 H2 H3]
  · isplitl [HQ]
    · iexists _; isplitr; swap; · iexact HQ
      ipureintro; exact Kept.mono m c t.val (t.val + 1) ht Q hQ
    isplitl [HM]
    · iexists _; isplitr; swap; · iexact HM
      ipureintro; intro _; rw [hd.1]; exact hM (by omega)
    isplitl [HS]
    · iexists _; isplitr; swap; · iexact HS
      ipureintro; intro _; rw [hd.2.1]; exact hS (by omega)
    isplitl [HI]
    · iexists _; isplitr; swap; · iexact HI
      ipureintro; intro _; rw [hd.2.2]; exact hI (by omega)
    iexact Hp
  isplitl [Ho]; · iexact Ho
  isplitl [H0]; · iapply (leaves_0 m c t d0); iexact H0
  isplitl [H1]
  · iapply (leaves_1 m c t ht _ (emitted_cut m c t h4 Q (Kept.mono m c t.val 98 ht Q hQ))); iexact H1
  isplitl [H2]; · iapply (leaves_23_past m c t ht).1; iexact H2
  iapply (leaves_23_past m c t ht).2; iexact H3

theorem defs_row (t : Fin cfg0.N) : (defs₀ (F := F)) .tc cfg0.body (cfg0.bodyArgs t (cfg0.slots t)) = bodyAt0 t := by
  unfold defs₀; rw [Defs.onTc_tc]

/-- The library's body obligation, by the four cases. -/
theorem body_obligation (c : Dev nD) : BodyObligationLoose (dats m 0 c) (defs₀ (F := F)) Variants.none () Set.univ := fun t => by
  rw [bigSep_W0, bigSep_W0, defs_row]
  have hN : t.val < 147 := t.isLt.trans_eq N_0
  by_cases h0 : t.val = 0
  · exact body_first m c t h0
  by_cases h97 : t.val < 97
  · exact body_scan m c t h0 h97
  by_cases h98 : t.val = 97
  · exact body_last m c t h98
  · exact body_emit m c t (by omega)

set_option backward.isDefEq.respectTransparency.types false in
/-- Every execution of the program terminates, with every array at what the points left there, every other buffer at
    what the lines after the region leave, and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) 0 launch0 defs₀ Variants.none m ρ main
    (fun c => body_obligation m c) (fun c => (dats m 0 c).share_full fun _ => rfl) (fun _ _ => rfl)
    (V0 m) [hostOps1] sfx_sub sfx_fresh sfx_keeps (hmain m Variants.none) (fun _ _ => rfl)
    (fun c => phi_in m c) (fun c => phi_out m c _) (Q' := _) (hQ' := fun _ h => h)

end Cert.KernelIdeal.Hand

end
-- ==== Proof.RefRun.lean ====
module

public import proofs.«01_k».proof.Defs
public import proofs.«01_k».proof.Proof.Gen.ReferenceIdeal
public import Idealize.ShloMosaic.Adequacy
public import Idealize.ShloMosaic.Init
public import Idealize.ShloMosaic.Lib.Claim

@[expose] public section

noncomputable section

namespace Cert.ReferenceIdeal.Hand

open Cert.ReferenceIdeal Cert.ReferenceIdeal.Gen
open Idealize.ShloMosaic Idealize.SL.Sem

/-! ## What the reference computes, stage by stage -/

/-- The ensemble minimum. -/
def refMin (x : FVec Ideal S128x4x100000 .f32) : FVec Ideal S128x100000 .f32 :=
  Host.reduce FloatOps.minimumf x (constant S_ .f32 0x7F800000#32) reducesTo_S128x4x100000_S128x100000_d1 h_S_

/-- A row's maximum, at every column of the row. -/
def rowMax (q : FVec Ideal S128x100000 .f32) : FVec Ideal S128 .f32 :=
  Host.reduce FloatOps.maximumf q (constant S_ .f32 0xFF800000#32) reducesTo_S128x100000_S128_d1 h_S_

/-- A value a row, at every column of the row. -/
def spread (v : FVec Ideal S128x1 .f32) : FVec Ideal S128x100000 .f32 :=
  broadcastInDim S128x100000 ![0, 1] bcast_S128x1_S128x100000_0_1 v

/-- A value a row, as a column. -/
def column (v : FVec Ideal S128 .f32) : FVec Ideal S128x1 .f32 := broadcastInDim S128x1 ![0] bcast_S128_S128x1_0 v

/-- Each row less its maximum. -/
def refSub (x : FVec Ideal S128x4x100000 .f32) : FVec Ideal S128x100000 .f32 :=
  subf (refMin x) (spread (column (rowMax (refMin x))))

/-- The log softmax of the rows of `z`. -/
def shifted (z : FVec Ideal S128x100000 .f32) : FVec Ideal S128x100000 .f32 :=
  subf z (spread (column (maximumf (broadcastInDim S128 ![] bcast_S_S128 (constant S_ .f32 0xFF800000#32)) (rowMax z))))
/-- … less the logarithm of their sum of exponentials. -/
def logSoftmax (z : FVec Ideal S128x100000 .f32) : FVec Ideal S128x100000 .f32 :=
  subf (shifted z)
    (spread (Host.log (column (Host.reduceAdd (Host.exp (shifted z)) (constant S_ .f32 0x00000000#32) reducesTo_S128x100000_S128_d1 h_S_))))

/-- The second components of an array of pairs. -/
def seconds {s : Shape} {α β : Type} (p : s.Idx → α × β) : s.Idx → β := fun j => (p j).2

/-- The reference's two results. -/
def refLP (x : FVec Ideal S128x4x100000 .f32) : FVec Ideal S128x100000 .f32 :=
  logSoftmax (Host.divf (refSub x) (broadcastInDim S128x100000 ![] bcast_S_S128x100000 (constant S_ .f32 0x3F800000#32)))
/-- The second: the index of each row's maximum. -/
def refBest (x : FVec Ideal S128x4x100000 .f32) : IVec S128 32 :=
  seconds (Host.argReduce reducer_argmax_f32_i32 (refSub x) (iotaInDim S128x100000 32 1) (constant S_ .f32 0xFF800000#32) (constantI S_ 32 0#32)
    reducesTo_S128x100000_S128_d1 h_S_)

/-- The reference runs to these, its argument unchanged. -/
theorem run_reference (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v7) = refLP (m ((c.tc : Thread nD τ).loc main_arg0))
      ∧ r.2.mem ((c.tc : Thread nD τ).loc main_v8) = refBest (m ((c.tc : Thread nD τ).loc main_arg0))
      ∧ r.2.mem ((c.tc : Thread nD τ).loc main_arg0) = m ((c.tc : Thread nD τ).loc main_arg0)) := by
  hlo_run
  · simp only [StableHlo.TRef.ofBuf_toBuf]
    unfold refLP logSoftmax shifted rowMax spread column refSub refMin
    refine (cast_eq _ _).trans ?_
    simp only [StableHlo.TRef.ofBuf, cast_eq]
    rfl
  · simp only [StableHlo.TRef.ofBuf_toBuf]
    unfold refBest seconds refSub rowMax spread column refMin
    refine (cast_eq _ _).trans ?_
    simp only [StableHlo.TRef.ofBuf, cast_eq]

/-- Its argument ends unchanged and every counter at zero. -/
theorem frame_reference : Cert.quiescent_ReferenceIdeal (hReferenceIdeal := Cert.ReferenceIdeal.Gen.facts) := fun m ρ _ =>
  (θ_run defs _ _).mono (fun r h => ⟨fun c => (h c).2.2, sem_eq_zero_of_no_sems (by decide) r.2⟩) (run_reference m ρ)

end Cert.ReferenceIdeal.Hand

end
-- ==== Proof.Online.lean ====
module

public import Idealize.ShloMosaic.PureOps.Ideal
public import Idealize.ShloMosaic.PureOps.Ideal.Laws
public import Idealize.ShloMosaic.PureOps.Reduce

@[expose] public section

noncomputable section

namespace Cert.KernelIdeal.Hand

open Idealize.ShloMosaic

/-! ## Rescaling exponentials -/

/-- Exponentials are nonnegative. -/
theorem exp_nonneg' (x : EReal) : 0 ≤ Ideal.exp x := by
  induction x using EReal.rec with
  | bot => exact le_refl _
  | top => exact le_top
  | coe r => rw [Ideal.exp_coe]; exact_mod_cast (Real.exp_pos r).le

/-- An exponential taken against one maximum is the one against a greater maximum after one more factor. -/
theorem exp_rescale (v M μ : EReal) (h1 : v ≤ M) (h2 : M ≤ μ) (hμ : μ ≠ ⊤) :
    Ideal.exp (v - M) * Ideal.exp (M - μ) = Ideal.exp (v - μ) := by
  induction v using EReal.rec with
  | bot => rw [sub_eq_add_neg, EReal.bot_add, sub_eq_add_neg ⊥ μ, EReal.bot_add, Ideal.exp_bot, zero_mul]
  | top => exact absurd (top_le_iff.mp (h1.trans h2)) hμ
  | coe v =>
    induction μ using EReal.rec with
    | bot => exact absurd (le_bot_iff.mp (h1.trans h2)) (EReal.coe_ne_bot v)
    | top => exact absurd rfl hμ
    | coe μ =>
      induction M using EReal.rec with
      | bot => exact absurd (le_bot_iff.mp h1) (EReal.coe_ne_bot v)
      | top => exact absurd (top_le_iff.mp h2) (EReal.coe_ne_top μ)
      | coe M =>
        rw [← EReal.coe_sub, ← EReal.coe_sub, ← EReal.coe_sub, Ideal.exp_coe, Ideal.exp_coe, Ideal.exp_coe, ← EReal.coe_mul,
          ← Real.exp_add]
        congr 2
        ring

/-- A factor goes into a sum of nonnegative terms. -/
theorem sum_mul_of_nonneg {ι : Type} (s : Finset ι) (f : ι → EReal) (c : EReal) (hf : ∀ i, 0 ≤ f i) :
    (∑ i ∈ s, f i) * c = ∑ i ∈ s, f i * c := by
  classical
  induction s using Finset.induction_on with
  | empty => simp
  | insert a s ha ih =>
    rw [Finset.sum_insert ha, Finset.sum_insert ha, EReal.right_distrib_of_nonneg (hf a) (Finset.sum_nonneg fun i _ => hf i), ih]

/-! ## The running maximum and the running sum of a sequence -/

/-- The maximum of a sequence's first `K` values. -/
def Mx (v : ℕ → EReal) (K : ℕ) : EReal := (Finset.range K).sup v

/-- The sum of the exponentials of its first `K` values, each less their maximum. -/
def Sm (v : ℕ → EReal) (K : ℕ) : EReal := ∑ k ∈ Finset.range K, Ideal.exp (v k - Mx v K)

/-- Each value is at most the maximum. -/
theorem le_Mx (v : ℕ → EReal) (K k : ℕ) (h : k < K) : v k ≤ Mx v K := Finset.le_sup (Finset.mem_range.mpr h)

/-- The maximum is at most any bound of the values. -/
theorem Mx_le (v : ℕ → EReal) (K : ℕ) (μ : EReal) (h : ∀ k < K, v k ≤ μ) : Mx v K ≤ μ :=
  Finset.sup_le fun k hk => h k (Finset.mem_range.mp hk)

/-- Of more values the maximum is no less. -/
theorem Mx_mono (v : ℕ → EReal) (K L : ℕ) : Mx v K ≤ Mx v (K + L) := Mx_le v K _ fun k hk => le_Mx v _ k (by omega)

/-- A positive number of values has its maximum among them. -/
theorem Mx_attained (v : ℕ → EReal) (K : ℕ) (hK : 0 < K) : ∃ k < K, v k = Mx v K := by
  obtain ⟨k, hk, e⟩ := Finset.exists_mem_eq_sup (Finset.range K) ⟨0, Finset.mem_range.mpr hK⟩ v
  exact ⟨k, Finset.mem_range.mp hk, e.symm⟩

/-- Where no value is `+∞`, neither is the maximum. -/
theorem Mx_ne_top (v : ℕ → EReal) (K : ℕ) (hv : ∀ k, v k ≠ ⊤) : Mx v K ≠ ⊤ := by
  rcases Nat.eq_zero_or_pos K with rfl | hK
  · simp [Mx]
  · obtain ⟨k, -, e⟩ := Mx_attained v K hK
    rw [← e]; exact hv k

/-- A fold of `max` is at most a bound exactly when every value is. -/
theorem fold_max_le_iff {L : ℕ} (f : Fin L → EReal) (b : EReal) :
    (Finset.univ : Finset (Fin L)).fold max ⊥ f ≤ b ↔ ∀ g, f g ≤ b := by
  rw [Finset.fold_max_le]; simp

/-- Each value is at most the fold of `max`. -/
theorem le_fold_max {L : ℕ} (f : Fin L → EReal) (g : Fin L) : f g ≤ (Finset.univ : Finset (Fin L)).fold max ⊥ f :=
  (fold_max_le_iff f _).mp le_rfl g

/-- The maximum after a further block is the greater of the earlier one and the block's. -/
theorem Mx_step (v : ℕ → EReal) (K L : ℕ) :
    max (Mx v K) ((Finset.univ : Finset (Fin L)).fold max ⊥ fun g => v (K + g.val)) = Mx v (K + L) := by
  apply le_antisymm
  · refine max_le (Mx_mono v K L) ((fold_max_le_iff _ _).mpr fun g => le_Mx v _ _ (by omega))
  · refine Mx_le v _ _ fun k hk => ?_
    by_cases h : k < K
    · exact le_max_of_le_left (le_Mx v K k h)
    · refine le_max_of_le_right ?_
      have := le_fold_max (fun g : Fin L => v (K + g.val)) ⟨k - K, by omega⟩
      have e : K + (k - K) = k := by omega
      simpa [e] using this

/-- The sum against the running maximum, rescaled to any value at least it. -/
theorem Sm_rescale (v : ℕ → EReal) (K : ℕ) (μ : EReal) (h : Mx v K ≤ μ) (hμ : μ ≠ ⊤) :
    Sm v K * Ideal.exp (Mx v K - μ) = ∑ k ∈ Finset.range K, Ideal.exp (v k - μ) := by
  unfold Sm
  rw [sum_mul_of_nonneg _ _ _ fun k => exp_nonneg' _]
  exact Finset.sum_congr rfl fun k hk => exp_rescale _ _ _ (le_Mx v K k (Finset.mem_range.mp hk)) h hμ

/-- The sum after a further block is the earlier one rescaled and the block's own. -/
theorem Sm_step (v : ℕ → EReal) (K L : ℕ) (hv : ∀ k, v k ≠ ⊤) :
    Sm v K * Ideal.exp (Mx v K - Mx v (K + L)) + ∑ g : Fin L, Ideal.exp (v (K + g.val) - Mx v (K + L)) = Sm v (K + L) := by
  rw [Sm_rescale v K _ (Mx_mono v K L) (Mx_ne_top v _ hv)]
  unfold Sm
  rw [Finset.sum_range_add, Finset.sum_range (fun x => Ideal.exp (v (K + x) - Mx v (K + L)))]

/-! ## The first index of the maximum -/

/-- A signed minimum is at most each of its terms, and is one of them or the value it starts from. -/
theorem fold_minsi {ι : Type} (s : Finset ι) (f : ι → BitVec 32) (init : BitVec 32) :
    (∀ x ∈ s, (s.fold IntOp.minsi init f).toInt ≤ (f x).toInt) ∧ (s.fold IntOp.minsi init f).toInt ≤ init.toInt
    ∧ (s.fold IntOp.minsi init f = init ∨ ∃ x ∈ s, s.fold IntOp.minsi init f = f x) := by
  classical
  induction s using Finset.induction_on with
  | empty => simp
  | insert a s ha ih =>
    rw [Finset.fold_insert ha]
    obtain ⟨h1, h2, h3⟩ := ih
    have hm : ∀ x y : BitVec 32, (IntOp.minsi x y).toInt ≤ x.toInt ∧ (IntOp.minsi x y).toInt ≤ y.toInt
        ∧ (IntOp.minsi x y = x ∨ IntOp.minsi x y = y) := by
      intro x y
      simp only [IntOp.minsi, BitVec.slt, decide_eq_true_eq]
      split_ifs <;> refine ⟨by omega, by omega, ?_⟩ <;> simp
    obtain ⟨m1, m2, m3⟩ := hm (f a) (s.fold IntOp.minsi init f)
    refine ⟨fun x hx => ?_, m2.trans h2, ?_⟩
    · rcases Finset.mem_insert.mp hx with rfl | hx
      · exact m1
      · exact m2.trans (h1 x hx)
    · rcases m3 with e | e
      · exact Or.inr ⟨a, Finset.mem_insert_self _ _, e⟩
      · rw [e]
        rcases h3 with e' | ⟨x, hx, e'⟩
        · exact Or.inl e'
        · exact Or.inr ⟨x, Finset.mem_insert_of_mem hx, e'⟩

/-- A small number reads as itself off its signed word. -/
theorem toInt_ofNat_small (n : ℕ) (h : n < 2147483648) : (BitVec.ofNat 32 n).toInt = (n : ℤ) := by
  rw [BitVec.toInt_eq_toNat_of_lt] <;> simp only [BitVec.toNat_ofNat] <;> omega

/-- The signed minimum of the positions of the elements that meet a condition, the greatest word at the others,
    is the least of those positions where there is one. -/
theorem fold_minsi_select {ι : Type} [Fintype ι] (P : ι → Prop) [DecidablePred P] (w : ι → BitVec 32) (n : ι → ℕ)
    (hn : ∀ x, P x → n x < 2147483647) (hw : ∀ x, P x → w x = BitVec.ofNat 32 (n x)) (hP : ∃ x, P x) :
    ∃ x, P x ∧ (Finset.univ : Finset ι).fold IntOp.minsi 2147483647#32 (fun x => if P x then w x else 2147483647#32) = BitVec.ofNat 32 (n x)
      ∧ ∀ y, P y → n x ≤ n y := by
  obtain ⟨h1, h2, h3⟩ := fold_minsi (Finset.univ : Finset ι) (fun x => if P x then w x else 2147483647#32) 2147483647#32
  generalize (Finset.univ : Finset ι).fold IntOp.minsi 2147483647#32 (fun x => if P x then w x else 2147483647#32) = r at h1 h2 h3
  have hI : (2147483647#32 : BitVec 32).toInt = 2147483647 := by decide
  have hle : ∀ y, P y → r.toInt ≤ (n y : ℤ) := fun y hy => by
    have := h1 y (Finset.mem_univ y)
    rw [if_pos hy, hw y hy, toInt_ofNat_small _ (by have := hn y hy; omega)] at this
    exact this
  have hne : r ≠ 2147483647#32 := by
    rintro rfl
    obtain ⟨x, hx⟩ := hP
    have := hle x hx
    have := hn x hx
    rw [hI] at *
    omega
  rcases h3 with e | ⟨x, -, e⟩
  · exact absurd e hne
  · by_cases hx : P x
    · rw [if_pos hx] at e
      refine ⟨x, hx, by rw [e, hw x hx], fun y hy => ?_⟩
      have := hle y hy
      rw [e, hw x hx, toInt_ofNat_small _ (by have := hn x hx; omega)] at this
      exact_mod_cast this
    · rw [if_neg hx] at e; exact absurd e hne

/-- The running index: unless every value so far is `-∞`, the first position of the maximum, counted by `n`. -/
def FirstOf (n : ℕ → ℕ) (v : ℕ → EReal) (K : ℕ) (I : BitVec 32) : Prop :=
  Mx v K = ⊥ ∨ ∃ k < K, I = BitVec.ofNat 32 (n k) ∧ v k = Mx v K ∧ ∀ k' < K, v k' = Mx v K → n k ≤ n k'

/-- Before the first value the statement holds of any index. -/
theorem FirstOf.zero (n : ℕ → ℕ) (v : ℕ → EReal) (I : BitVec 32) : FirstOf n v 0 I := Or.inl (by simp [Mx])

/-- A further block takes its own first position of its maximum where that is greater than the maximum so far. -/
theorem FirstOf.step (n : ℕ → ℕ) (hn : Monotone n) (v : ℕ → EReal) (K L : ℕ) (hL : 0 < L) (hb : ∀ k < K + L, n k < 2147483647)
    (I : BitVec 32) (h : FirstOf n v K I) (w : Fin L → BitVec 32) (hw : ∀ g, w g = BitVec.ofNat 32 (n (K + g.val))) :
    FirstOf n v (K + L) (if Mx v K < (Finset.univ : Finset (Fin L)).fold max ⊥ (fun g => v (K + g.val))
      then (Finset.univ : Finset (Fin L)).fold IntOp.minsi 2147483647#32
        (fun g => if v (K + g.val) = (Finset.univ : Finset (Fin L)).fold max ⊥ (fun g => v (K + g.val)) then w g else 2147483647#32)
      else I) := by
  classical
  have hst := Mx_step v K L
  generalize hm : (Finset.univ : Finset (Fin L)).fold max ⊥ (fun g => v (K + g.val)) = m at hst ⊢
  by_cases hlt : Mx v K < m
  · rw [if_pos hlt]
    have hMm : Mx v (K + L) = m := by rw [← hst, max_eq_right hlt.le]
    refine Or.inr ?_
    have hex : ∃ g : Fin L, v (K + g.val) = m := by
      obtain ⟨k, hk, e⟩ := Mx_attained v (K + L) (by omega)
      have hkK : ¬ k < K := fun h' => by
        have := le_Mx v K k h'
        rw [e, hMm] at this
        exact absurd hlt (not_lt.mpr this)
      exact ⟨⟨k - K, by omega⟩, by rw [show K + (k - K) = k by omega, e, hMm]⟩
    obtain ⟨g, hg, e, hmin⟩ := fold_minsi_select (fun g : Fin L => v (K + g.val) = m) w (fun g => n (K + g.val))
      (fun g _ => hb _ (by omega)) (fun g _ => hw g) hex
    refine ⟨K + g.val, by omega, e, by rw [hg, hMm], fun k' hk' e' => ?_⟩
    have hkK : ¬ k' < K := fun h' => by
      have := le_Mx v K k' h'
      rw [e', hMm] at this
      exact absurd hlt (not_lt.mpr this)
    have := hmin ⟨k' - K, by omega⟩ (by show v (K + (k' - K)) = m; rw [show K + (k' - K) = k' by omega, e', hMm])
    simpa [show K + (k' - K) = k' by omega] using this
  · rw [if_neg hlt]
    have hMm : Mx v (K + L) = Mx v K := by rw [← hst, max_eq_left (not_lt.mp hlt)]
    rcases h with h | ⟨k, hk, e, ev, hmin⟩
    · exact Or.inl (hMm.trans h)
    · refine Or.inr ⟨k, by omega, e, ev.trans hMm.symm, fun k' hk' e' => ?_⟩
      by_cases hkK : k' < K
      · exact hmin k' hkK (e'.trans hMm)
      · exact hn (by omega)

/-! ## The eight classes of a row together -/

/-- The values at the positions of class `s`. -/
def cls (q : ℕ → EReal) (s : ℕ) : ℕ → EReal := fun k => q (8 * k + s)

/-- A sum over a sequence is the sum over its eight classes. -/
theorem sum_cls (f : ℕ → EReal) (K : ℕ) : ∑ s : Fin 8, ∑ k ∈ Finset.range K, f (8 * k + s.val) = ∑ a ∈ Finset.range (8 * K), f a := by
  rw [Finset.sum_comm]
  induction K with
  | zero => simp
  | succ K ih =>
    rw [Finset.sum_range_succ, ih, show 8 * (K + 1) = 8 * K + 8 by ring, Finset.sum_range_add,
      Finset.sum_range (fun x => f (8 * K + x))]

/-- The classes' maxima have the row's maximum for theirs. -/
theorem Mx_cls (q : ℕ → EReal) (K : ℕ) :
    (Finset.univ : Finset (Fin 8)).fold max ⊥ (fun s => Mx (cls q s.val) K) = Mx q (8 * K) := by
  apply le_antisymm
  · refine (fold_max_le_iff _ _).mpr fun s => Mx_le _ _ _ fun k hk => le_Mx q _ _ (by omega)
  · refine Mx_le _ _ _ fun a ha => ?_
    refine le_trans ?_ (le_fold_max (fun s : Fin 8 => Mx (cls q s.val) K) ⟨a % 8, by omega⟩)
    have := le_Mx (cls q (a % 8)) K (a / 8) (by omega)
    unfold cls at this
    rwa [show 8 * (a / 8) + a % 8 = a by omega] at this

/-- The classes' sums, each rescaled to the row's maximum, add up to the row's sum. -/
theorem Sm_cls (q : ℕ → EReal) (K : ℕ) (hq : ∀ a, q a ≠ ⊤) :
    ∑ s : Fin 8, Sm (cls q s.val) K * Ideal.exp (Mx (cls q s.val) K - Mx q (8 * K)) = Sm q (8 * K) := by
  have hle : ∀ s : Fin 8, Mx (cls q s.val) K ≤ Mx q (8 * K) := fun s => by
    rw [← Mx_cls]; exact le_fold_max (fun s : Fin 8 => Mx (cls q s.val) K) s
  rw [Finset.sum_congr rfl fun s _ => Sm_rescale (cls q s.val) K _ (hle s) (Mx_ne_top q _ hq)]
  exact sum_cls (fun a => Ideal.exp (q a - Mx q (8 * K))) K

/-- The least of the indices of the classes that attain the row's maximum is the row's first position of it. -/
theorem first_cls (q : ℕ → EReal) (K : ℕ) (hK : 0 < K) (hb : 8 * K < 2147483647) (hbot : Mx q (8 * K) ≠ ⊥) (I : Fin 8 → BitVec 32)
    (hI : ∀ s, FirstOf (fun k => 8 * k + s.val) (cls q s.val) K (I s)) :
    ∃ a < 8 * K, (Finset.univ : Finset (Fin 8)).fold IntOp.minsi 2147483647#32
        (fun s => if Mx (cls q s.val) K = Mx q (8 * K) then I s else 2147483647#32) = BitVec.ofNat 32 a
      ∧ q a = Mx q (8 * K) ∧ ∀ a' < 8 * K, q a' = Mx q (8 * K) → a ≤ a' := by
  classical
  have hI' : ∀ s : Fin 8, Mx (cls q s.val) K = Mx q (8 * K) → ∃ k < K, I s = BitVec.ofNat 32 (8 * k + s.val) ∧ q (8 * k + s.val) = Mx q (8 * K)
      ∧ ∀ k' < K, q (8 * k' + s.val) = Mx q (8 * K) → 8 * k + s.val ≤ 8 * k' + s.val := by
    intro s hs
    rcases hI s with h | ⟨k, hk, e, ev, hmin⟩
    · exact absurd (hs.symm.trans h) hbot
    · exact ⟨k, hk, e, ev.trans hs, fun k' hk' e' => hmin k' hk' (e'.trans hs.symm)⟩
  have hof : ∀ a < 8 * K, q a = Mx q (8 * K) → Mx (cls q (a % 8)) K = Mx q (8 * K) := by
    intro a ha e
    apply le_antisymm
    · rw [← Mx_cls]; exact le_fold_max (fun s : Fin 8 => Mx (cls q s.val) K) ⟨a % 8, by omega⟩
    · rw [← e]
      have := le_Mx (cls q (a % 8)) K (a / 8) (by omega)
      unfold cls at this
      rwa [show 8 * (a / 8) + a % 8 = a by omega] at this
  choose! k hk e ev hmin using hI'
  obtain ⟨a0, ha0, e0⟩ := Mx_attained q (8 * K) (by omega)
  obtain ⟨s, hs, es, hsmin⟩ := fold_minsi_select (fun s : Fin 8 => Mx (cls q s.val) K = Mx q (8 * K)) I (fun s => 8 * k s + s.val)
    (fun s hs => by have := hk s hs; omega) e ⟨⟨a0 % 8, by omega⟩, hof a0 ha0 e0⟩
  refine ⟨8 * k s + s.val, by have := hk s hs; omega, es, ev s hs, fun a' ha' e' => ?_⟩
  have h1 := hof a' ha' e'
  refine (hsmin ⟨a' % 8, by omega⟩ h1).trans ?_
  have h2 := hmin ⟨a' % 8, by omega⟩ h1 (a' / 8) (by omega) (by
    show q (8 * (a' / 8) + a' % 8) = _
    rw [show 8 * (a' / 8) + a' % 8 = a' by omega, e'])
  have h3 : 8 * (a' / 8) + a' % 8 = a' := by omega
  simpa [h3] using h2

/-! ## Positions that hold `-∞` -/

/-- Positions at `-∞` past the first `A` add nothing to the maximum. -/
theorem Mx_tail (q : ℕ → EReal) (A B : ℕ) (hq : ∀ a, A ≤ a → q a = ⊥) : Mx q (A + B) = Mx q A := by
  apply le_antisymm
  · refine Mx_le _ _ _ fun a ha => ?_
    by_cases h : a < A
    · exact le_Mx q A a h
    · rw [hq a (by omega)]; exact bot_le
  · exact Mx_mono q A B

/-- Nor to the sum. -/
theorem Sm_tail (q : ℕ → EReal) (A B : ℕ) (hq : ∀ a, A ≤ a → q a = ⊥) : Sm q (A + B) = Sm q A := by
  unfold Sm
  rw [Mx_tail q A B hq, Finset.sum_range_add]
  rw [Finset.sum_eq_zero (s := Finset.range B), add_zero]
  intro x _
  rw [hq _ (by omega), sub_eq_add_neg, EReal.bot_add, Ideal.exp_bot]

end Cert.KernelIdeal.Hand

end
-- ==== Proof.Step.lean ====
module

public import proofs.«01_k».proof.Proof.Facts
public import proofs.«01_k».proof.Proof.Online
public import Idealize.ShloMosaic.Lib.Pointwise

@[expose] public section

set_option maxRecDepth 16384

noncomputable section

namespace Cert.KernelIdeal.Hand

open Cert.KernelIdeal Cert.KernelIdeal.Gen
open Idealize.ShloMosaic

/-! ## One scan step, at an element -/

/-- The word of `-∞`. -/
theorem ofBits_negInf : Ideal.ofBits .f32 0xFF800000#32 = ⊥ := by
  simp [Ideal.ofBits, Ideal.ieee]
/-- The word of `+∞`. -/
theorem ofBits_posInf : Ideal.ofBits .f32 0x7F800000#32 = ⊤ := by
  simp [Ideal.ofBits, Ideal.ieee]

/-- The least of the four ensemble values at a row and a lane. -/
theorem pay10_apply (x : Vec Ideal S4x1024x128 .f32) (r : Fin 1024) (b : Fin 128) :
    k0_pay10 x (ix2 r b) = (Finset.univ : Finset (Fin 4)).fold min ⊤ (fun e => x (ix3 e r b)) := by
  pointwise [k0_pay10]
  rw [show (2139095040#32 : BitVec 32) = 0x7F800000#32 from rfl, ofBits_posInf]

/-- The masked minima: `-∞` at the rows past the array's end. -/
theorem pay13_apply (n : ℕ) (hn : n < 147) (x : Vec Ideal S4x1024x128 .f32) (g : Fin 128) (s : Fin 8) (b : Fin 128) :
    k0_pay13 (BitVec.ofNat 32 n) x (ix3 g s b)
      = if 1024 * n + (g.val * 8 + s.val) < 100000 then k0_pay10 x (ix2 (⟨g.val * 8 + s.val, by omega⟩ : Fin 1024) b) else ⊥ := by
  pointwise [k0_pay13]
  rw [show (4286578688#32 : BitVec 32) = 0xFF800000#32 from rfl, ofBits_negInf, pay12_apply n hn]
  have hr : g.val * 8 + s.val < 1024 := by omega
  have e : (ix2 (⟨g.val * 8 + s.val, hr⟩ : Fin 1024) b) 0 = (⟨g.val * 8 + s.val, hr⟩ : Fin 1024) := rfl
  rw [e]
  have hb : (100000#32).toInt = 100000 := by decide
  simp only [Scalar.select, IntOp.cmpi, BitVec.slt, hb]
  rw [toInt_ofNat_small _ (by show 1024 * n + (g.val * 8 + s.val) < _; omega)]
  by_cases h : 1024 * n + (g.val * 8 + s.val) < 100000
  · rw [if_pos h, decide_eq_true (by exact_mod_cast h)]; rfl
  · rw [if_neg h, decide_eq_false (by exact_mod_cast h)]; rfl

/-- A lane's values in the order of the rows, `-∞` past the array's end. -/
def seqOf (f : (a : ℕ) → a < 100000 → EReal) (a : ℕ) : EReal := if h : a < 100000 then f a h else ⊥

/-- Past the array's end it is `-∞`. -/
theorem seqOf_past (f : (a : ℕ) → a < 100000 → EReal) (a : ℕ) (h : 100000 ≤ a) : seqOf f a = ⊥ := dif_neg (by omega)

/-- The running maxima, sums and indices are those of lane `b`'s values `q`, each class over its first `K` positions. -/
structure Runs (q : Fin 128 → ℕ → EReal) (K : ℕ) (M S : Vec Ideal S8x128 .f32) (I : Vec Ideal S8x128 .i32) : Prop where
  maxAt : ∀ (s : Fin 8) (b : Fin 128), M (ix2 s b) = Mx (cls (q b) s.val) K
  sumAt : ∀ (s : Fin 8) (b : Fin 128), S (ix2 s b) = Sm (cls (q b) s.val) K
  idxAt : ∀ (s : Fin 8) (b : Fin 128), FirstOf (fun k => 8 * k + s.val) (cls (q b) s.val) K (I (ix2 s b))

/-- They start so. -/
theorem Runs.init (q : Fin 128 → ℕ → EReal) : Runs q 0 (k0_pay1 (F := Ideal)) (k0_pay2 (F := Ideal)) k0_pay3 where
  maxAt s b := by
    pointwise [k0_pay1]
    rw [show (4286578688#32 : BitVec 32) = 0xFF800000#32 from rfl, ofBits_negInf]; simp [Mx]
  sumAt s b := by
    pointwise [k0_pay2]
    simp [Sm]
  idxAt s b := FirstOf.zero _ _ _

/-- A scan step takes them one block of 128 positions a class further. -/
theorem Runs.step (q : Fin 128 → ℕ → EReal) (hq : ∀ b a, q b a ≠ ⊤) (i : grid0.Coords) (n : ℕ) (hi : (i 0).val = n) (hn : n < 98)
    (x : Vec Ideal S4x1024x128 .f32) (M S : Vec Ideal S8x128 .f32) (I : Vec Ideal S8x128 .i32)
    (hx : ∀ (g : Fin 128) (s : Fin 8) (b : Fin 128), k0_pay13 (gw i) x (ix3 g s b) = q b (1024 * n + (g.val * 8 + s.val)))
    (h : Runs q (128 * n) M S I) : Runs q (128 * (n + 1)) (stepM i x M) (stepS i x M S) (stepI i x M I) := by
  have h13 : ∀ (g : Fin 128) (s : Fin 8) (b : Fin 128), k0_pay13 (gw i) x (ix3 g s b) = cls (q b) s.val (128 * n + g.val) := fun g s b => by
    rw [hx]; unfold cls; congr 1; ring
  have h14 : ∀ (s : Fin 8) (b : Fin 128), k0_pay14 (gw i) x (ix2 s b)
      = (Finset.univ : Finset (Fin 128)).fold max ⊥ (fun g => cls (q b) s.val (128 * n + g.val)) := fun s b => by
    pointwise [k0_pay14]
    rw [show (4286578688#32 : BitVec 32) = 0xFF800000#32 from rfl, ofBits_negInf]
    simp only [h13]
  have h16 : ∀ (s : Fin 8) (b : Fin 128), k0_pay16 (gw i) x M (ix2 s b) = Mx (cls (q b) s.val) (128 * (n + 1)) := fun s b => by
    pointwise [k0_pay16]
    rw [h14, h.maxAt, Mx_step]; congr 1
  refine ⟨fun s b => ?_, fun s b => ?_, fun s b => ?_⟩
  · unfold stepM
    rw [← h16]
    pointwise [k0_pay5]
  · unfold stepS
    pointwise [k0_pay17]
    simp only [h16, h13, h.maxAt, h.sumAt]
    rw [show 128 * (n + 1) = 128 * n + 128 by ring]
    exact Sm_step (cls (q b) s.val) (128 * n) 128 fun k => hq b _
  · have h15 : k0_pay15 (gw i) x (ix2 s b) = (Finset.univ : Finset (Fin 128)).fold IntOp.minsi 2147483647#32
        (fun g => if cls (q b) s.val (128 * n + g.val) = (Finset.univ : Finset (Fin 128)).fold max ⊥ (fun g => cls (q b) s.val (128 * n + g.val))
          then BitVec.ofNat 32 (8 * (128 * n + g.val) + s.val) else 2147483647#32) := by
      pointwise [k0_pay15]
      simp only [h13, h14]
      refine Finset.fold_congr fun g _ => ?_
      have hg : g.val < 128 := g.isLt
      have hs : s.val < 8 := s.isLt
      have hr : g.val * 8 + s.val < 1024 := by omega
      have e : k0_pay12 (gw i) (ix2 (⟨g.val * 8 + s.val, hr⟩ : Fin 1024) b) = BitVec.ofNat 32 (8 * (128 * n + g.val) + s.val) := by
        unfold gw
        rw [hi, pay12_apply n (by omega)]
        congr 1
        show 1024 * n + (g.val * 8 + s.val) = _
        ring
      rw [e]
    unfold stepI
    pointwise [k0_pay4]
    rw [h14, h15, h.maxAt, show 128 * (n + 1) = 128 * n + 128 by ring]
    exact FirstOf.step (fun k => 8 * k + s.val) (fun a b hab => by dsimp only; omega) (cls (q b) s.val) (128 * n) 128 (by omega)
      (fun k hk => by omega) _ (h.idxAt s b) _ fun g => rfl

/-! ## What the last scan point stores -/

/-- The normalizer: the row's maximum and the logarithm of its sum. -/
theorem Runs.norm (q : Fin 128 → ℕ → EReal) (hq : ∀ b a, q b a ≠ ⊤) (K : ℕ) (M S : Vec Ideal S8x128 .f32) (I : Vec Ideal S8x128 .i32)
    (h : Runs q K M S I) (s : Fin 8) (b : Fin 128) :
    k0_pay7 M S (ix2 s b) = Mx (q b) (8 * K) + Ideal.log (Sm (q b) (8 * K)) := by
  pointwise [k0_pay7, k0_pay6]
  rw [show (4286578688#32 : BitVec 32) = 0xFF800000#32 from rfl, ofBits_negInf]
  simp only [h.maxAt, h.sumAt]
  rw [Mx_cls, Sm_cls _ _ (hq b)]

/-- The index: the row's first position of its maximum. -/
theorem Runs.best (q : Fin 128 → ℕ → EReal) (K : ℕ) (hK : 0 < K) (hb : 8 * K < 2147483647) (M S : Vec Ideal S8x128 .f32)
    (I : Vec Ideal S8x128 .i32) (h : Runs q K M S I) (s : Fin 8) (b : Fin 128) (hbot : Mx (q b) (8 * K) ≠ ⊥) :
    ∃ a < 8 * K, k0_pay8 M I (ix2 s b) = BitVec.ofNat 32 a ∧ q b a = Mx (q b) (8 * K) ∧ ∀ a' < 8 * K, q b a' = Mx (q b) (8 * K) → a ≤ a' := by
  have e : k0_pay8 M I (ix2 s b) = (Finset.univ : Finset (Fin 8)).fold IntOp.minsi 2147483647#32
        (fun s => if Mx (cls (q b) s.val) K = Mx (q b) (8 * K) then I (ix2 s b) else 2147483647#32) := by
    pointwise [k0_pay8, k0_pay6]
    rw [show (4286578688#32 : BitVec 32) = 0xFF800000#32 from rfl, ofBits_negInf]
    simp only [h.maxAt]
    rw [Mx_cls]
  rw [e]
  exact first_cls (q b) K hK hb hbot (fun s => I (ix2 s b)) fun s => h.idxAt s b

end Cert.KernelIdeal.Hand

end
-- ==== Proof.Fold.lean ====
module

public import proofs.«01_k».proof.Proof.Step
public import Idealize.ShloMosaic.Lib.Claim
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe

/-! ## The scanned blocks in terms of the argument -/

/-- The least of the four ensemble values of row `b` of the argument, in the order of the columns. -/
def ensMin (x : FVec Ideal S128x4x100000 .f32) (b : Fin 128) (a : ℕ) (h : a < 100000) : EReal :=
  (Finset.univ : Finset (Fin 4)).fold min ⊤ (fun e => x (ix3 b e (⟨a, h⟩ : Fin 100000)))

/-- The same as a sequence, `-∞` past the last column. -/
def qmin (x : FVec Ideal S128x4x100000 .f32) (b : Fin 128) : ℕ → EReal := seqOf (ensMin x b)

/-- Past the last column the sequence is at `-∞`. -/
theorem qmin_past (x : FVec Ideal S128x4x100000 .f32) (b : Fin 128) (a : ℕ) (h : 100000 ≤ a) : qmin x b a = ⊥ := seqOf_past _ _ h

/-- Before it, it is the ensemble minimum. -/
theorem qmin_of_lt (x : FVec Ideal S128x4x100000 .f32) (b : Fin 128) (a : ℕ) (h : a < 100000) : qmin x b a = ensMin x b a h := dif_pos h

variable (m : (ℓ : Loc nD τ sig) → Buf (Elt Ideal) ℓ)

/-- The argument of core `c`. -/
abbrev argOf (c : Dev nD) : FVec Ideal S128x4x100000 .f32 := m ((c : Thread nD τ).loc main_arg0)

/-- The scanned array is the argument, its axes permuted. -/
theorem V_main_v0 (c : Dev nD) : V m c main_v0 = transpose S4x100000x128 [1, 2, 0] (argOf m c) transposes_S128x4x100000_S4x100000x128_1_2_0 := by
  show StableHlo.after hostOps0 _ (Proc.devRef .tc main_v0) = _
  unfold hostOps0
  after_results

/-- An element of a scanned block, inside the array. -/
theorem xblk_apply (c : Dev nD) (t : Fin cfg0.N) (ht : t.val < 98) (e : Fin 4) (r : Fin 1024) (b : Fin 128)
    (h : 1024 * t.val + r.val < 100000) : xblk m c t (ix3 e r b) = argOf m c (ix3 b e (⟨1024 * t.val + r.val, h⟩ : Fin 100000)) := by
  have hc : ((grid0.coords t) 0).val = t.val := coord_val t
  have hm : win0_0.moved (grid0.coords t) (ix3 e r b) = true := by
    rw [Pipeline.Window.moved_iff, xsize0_eq]
    intro a
    fin_cases a
    · exact e.isLt
    · show r.val < min 1024 (100000 - 1024 * min ((grid0.coords t) 0).val 97)
      have := r.isLt
      omega
    · exact b.isLt
  unfold xblk Pipeline.Window.fill
  rw [dif_pos hm]
  unfold iblk
  show (V m c main_v0) (((cfg0.win 0).blk t).view.emb _) = _
  rw [V_main_v0]
  refine transpose_apply _ _ _ _ _ fun a => ?_
  fin_cases a
  · show e.val = win0_0.kind.off (win0_0.index t 0) (win0_0.size 0) + 1 * e.val
    have : win0_0.index t 0 = 0 := by
      show cc0_transform_0 (grid0.coords t) 0 = 0
      rw [index0_eq]; rfl
    rw [this]
    show _ = 0 * 4 + 1 * e.val
    omega
  · show 1024 * t.val + r.val = win0_0.kind.off (win0_0.index t 1) (win0_0.size 1) + 1 * r.val
    have : win0_0.index t 1 = t.val := by
      show cc0_transform_0 (grid0.coords t) 1 = t.val
      rw [index0_eq]
      show min ((grid0.coords t) 0).val 97 = t.val
      omega
    rw [this]
    show _ = t.val * 1024 + 1 * r.val
    omega
  · show b.val = win0_0.kind.off (win0_0.index t 2) (win0_0.size 2) + 1 * b.val
    have : win0_0.index t 2 = 0 := by
      show cc0_transform_0 (grid0.coords t) 2 = 0
      rw [index0_eq]; rfl
    rw [this]
    show _ = 0 * 128 + 1 * b.val
    omega

/-- The two spellings of an index agree. -/
theorem at2_eq_ix2 {p q : ℕ} (a : Fin p) (b : Fin q) : at2 a b = ix2 a b := by
  funext x; fin_cases x <;> rfl

/-- The kept minimum of a row is the argument's. -/
theorem keptAt_eq (c : Dev nD) (a : ℕ) (ha : a < 100000) (b : Fin 128) : keptAt m c a ha b = ensMin (argOf m c) b a ha := by
  unfold keptAt ensMin
  rw [pay11_eq, at2_eq_ix2, pay10_apply]
  refine Finset.fold_congr fun e _ => ?_
  have hr : 1024 * (a / 1024) + a % 1024 = a := by omega
  rw [xblk_apply m c ⟨a / 1024, _⟩ (by show a / 1024 < 98; omega) e ⟨a % 1024, _⟩ b (by show 1024 * (a / 1024) + a % 1024 < _; omega)]
  have : (⟨1024 * (a / 1024) + a % 1024, by omega⟩ : Fin 100000) = ⟨a, ha⟩ := Fin.ext hr
  exact congrArg (fun k => argOf m c (ix3 b e k)) this

/-! ## The running values after the scan -/

/-- A scan point's masked minima are the row's values in order. -/
theorem masked_eq (c : Dev nD) (t : Fin cfg0.N) (ht : t.val < 98) (g : Fin 128) (s : Fin 8) (b : Fin 128) :
    k0_pay13 (gw (grid0.coords t)) (xblk m c t) (ix3 g s b) = qmin (argOf m c) b (1024 * t.val + (g.val * 8 + s.val)) := by
  have hc : ((grid0.coords t) 0).val = t.val := coord_val t
  have hg : g.val < 128 := g.isLt
  have hs : s.val < 8 := s.isLt
  have hr : g.val * 8 + s.val < 1024 := by omega
  unfold gw
  rw [hc, pay13_apply _ (by omega)]
  unfold qmin seqOf
  by_cases h : 1024 * t.val + (g.val * 8 + s.val) < 100000
  · rw [if_pos h, dif_pos h, pay10_apply]
    unfold ensMin
    refine Finset.fold_congr fun e _ => ?_
    exact xblk_apply m c t ht e ⟨g.val * 8 + s.val, hr⟩ b h
  · rw [if_neg h, dif_neg h]

/-- After `n` points the running values are those of the rows' first `1024 n` columns. -/
theorem runs_acc (c : Dev nD) (hq : ∀ b a, qmin (argOf m c) b a ≠ ⊤) (n : ℕ) (hn : n ≤ 98) :
    Runs (qmin (argOf m c)) (128 * n) (accM m c n) (accS m c n) (accI m c n) := by
  induction n with
  | zero => exact Runs.init _
  | succ n ih =>
    have h98 : n < 98 := by omega
    have hN : n < cfg0.N := by rw [show cfg0.N = 147 from N_0]; omega
    rw [accM, accS, accI, dif_pos h98, dif_pos h98, dif_pos h98]
    exact Runs.step _ hq (grid0.coords ⟨n, hN⟩) n (coord_val ⟨n, hN⟩) h98 _ _ _ _ (fun g s b => masked_eq m c ⟨n, hN⟩ h98 g s b) (ih (by omega))

/-- The normalizer of row `b`: its maximum and the logarithm of the sum of exponentials. -/
theorem normv_eq (c : Dev nD) (hq : ∀ b a, qmin (argOf m c) b a ≠ ⊤) (s : Fin 8) (b : Fin 128) :
    normv m c (ix2 s b) = Mx (qmin (argOf m c) b) 100000 + Ideal.log (Sm (qmin (argOf m c) b) 100000) := by
  have h := (runs_acc m c hq 98 le_rfl).norm _ hq _ _ _ _ s b
  unfold normv
  rw [h, show 8 * (128 * 98) = 100000 + 352 from rfl, Mx_tail _ _ _ (qmin_past (argOf m c) b), Sm_tail _ _ _ (qmin_past (argOf m c) b)]

/-- The index of row `b`: the first column of its maximum. -/
theorem bestv_eq (c : Dev nD) (hq : ∀ b a, qmin (argOf m c) b a ≠ ⊤) (s : Fin 8) (b : Fin 128) (hbot : Mx (qmin (argOf m c) b) 100000 ≠ ⊥) :
    ∃ a < 100000, bestv m c (ix2 s b) = BitVec.ofNat 32 a ∧ qmin (argOf m c) b a = Mx (qmin (argOf m c) b) 100000
      ∧ ∀ a' < 100000, qmin (argOf m c) b a' = Mx (qmin (argOf m c) b) 100000 → a ≤ a' := by
  have ht : Mx (qmin (argOf m c) b) (8 * (128 * 98)) = Mx (qmin (argOf m c) b) 100000 := by
    rw [show 8 * (128 * 98) = 100000 + 352 from rfl, Mx_tail _ _ _ (qmin_past (argOf m c) b)]
  obtain ⟨a, ha, h1, h2, h3⟩ := (runs_acc m c hq 98 le_rfl).best _ _ (by omega) (by omega) _ _ _ s b (by rw [ht]; exact hbot)
  rw [ht] at h2 h3
  have ha' : a < 100000 := by
    by_contra hge
    exact hbot (h2 ▸ seqOf_past _ _ (by omega))
  exact ⟨a, ha', h1, h2, fun a' h' e => h3 a' (by omega) e⟩

end Cert.KernelIdeal.Hand

end
-- ==== Proof.Value.lean ====
module

public import proofs.«01_k».proof.Proof.Fold
public import proofs.«01_k».proof.Proof.Data

@[expose] public section

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ)

/-! ## The arrays the region leaves -/

/-- The rows: the ensemble minimum less the row's normalizer. -/
def rowsOf (c : Dev nD) : Vec Ideal S100000x128 .f32 := fun j =>
  keptAt m c (j 0).val (j 0).isLt (j 1) - normv m c (ix2 (0 : Fin 8) (j 1 : Fin 128))

/-- What an emitting point stores, at an element. -/
theorem pay9_apply (Q : Vec Ideal S2048x128 .f32) (N : Vec Ideal S1x128 .f32) (r : Fin 2048) (b : Fin 128) :
    k0_pay9 Q N (ix2 r b) = Q (ix2 r b) - N (ix2 (0 : Fin 1) b) := by
  pointwise [k0_pay9]

/-- The kept minimum at equal rows and lanes. -/
theorem keptAt_congr (c : Dev nD) {a a' : ℕ} (ha : a < 100000) (ha' : a' < 100000) {b b' : Fin 128} (h : a = a') (hb : b = b') :
    keptAt m c a ha b = keptAt m c a' ha' b' := by
  subst h; subst hb; rfl

/-- An element of an emitting point's block, at its row inside the array. -/
theorem outblk_apply (c : Dev nD) (t : Fin cfg0.N) (r : Fin 2048) (b : Fin 128) (h : 2048 * (t.val - 98) + r.val < 100000) :
    outblk m c t (ix2 r b) = keptAt m c (2048 * (t.val - 98) + r.val) h b - normv m c (ix2 (0 : Fin 8) b) := by
  unfold outblk
  rw [pay9_apply]
  refine congrArg₂ (fun x y : EReal => x - y) (dif_pos h) (congrArg (normv m c) ?_)
  funext x
  apply Fin.ext
  rw [Rect.emb_apply]
  fin_cases x
  · rfl
  · show 0 + 1 * b.val = b.val
    omega

/-- After the run the first array holds the rows. -/
theorem rows_eq (c : Dev nD) : (dats m 0 c).arrAt 1 cfg0.N = rowsOf m c := by
  refine (dats m 0 c).arrAt_eq_of_covers 1 _ (by decide +kernel) fun t hf y => ?_
  have h98 : 98 ≤ t.val := (flush1 t).mp hf
  have hc : ((grid0.coords t) 0).val = t.val := coord_val t
  have hx : ∀ a, (y a).val < win0_1.xsize (grid0.coords t) a := fun a => (y a).isLt
  have hx0 : (y 0).val < min 2048 (100000 - 2048 * (((grid0.coords t) 0).val - 98)) := by
    have := hx 0; rw [xsize1_eq] at this; exact this
  have he0 : ((((cfg0.win 1).blk t).view.emb y) 0).val = 2048 * (t.val - 98) + (y 0).val := by
    show win0_1.kind.off (win0_1.index t 0) (win0_1.size 0) + 1 * (y 0).val = _
    have : win0_1.index t 0 = t.val - 98 := by
      show cc0_transform_1 (grid0.coords t) 0 = _
      rw [index1_eq]
      show ((grid0.coords t) 0).val - 98 = _
      omega
    rw [this]
    show (t.val - 98) * 2048 + 1 * (y 0).val = _
    omega
  have he1 : ((((cfg0.win 1).blk t).view.emb y) 1).val = (y 1).val := by
    show win0_1.kind.off (win0_1.index t 1) (win0_1.size 1) + 1 * (y 1).val = _
    have : win0_1.index t 1 = 0 := by
      show cc0_transform_1 (grid0.coords t) 1 = _
      rw [index1_eq]; rfl
    rw [this]
    show 0 * 128 + 1 * (y 1).val = _
    omega
  show outblk m c t (win0_1.xinj (grid0.coords t) y) = rowsOf m c (((cfg0.win 1).blk t).view.emb y)
  have hj : 2048 * (t.val - 98) + (y 0).val < 100000 := by omega
  have e : win0_1.xinj (grid0.coords t) y = ix2 (⟨(y 0).val, by omega⟩ : Fin 2048) (win0_1.xinj (grid0.coords t) y 1 : Fin 128) := by
    funext a; fin_cases a <;> rfl
  have hb : (win0_1.xinj (grid0.coords t) y 1 : Fin 128) = (((cfg0.win 1).blk t).view.emb y) 1 := Fin.ext he1.symm
  refine (congrArg (outblk m c t) e).trans ((outblk_apply m c t _ _ hj).trans ?_)
  unfold rowsOf
  exact congrArg₂ (fun x y : EReal => x - y) (keptAt_congr m c _ _ he0.symm hb) (congrArg (fun k => normv m c (ix2 (0 : Fin 8) k)) hb)

/-- After the run the third array holds the indices. -/
theorem best_eq (c : Dev nD) : (dats m 0 c).arrAt 3 cfg0.N = bestv m c := by
  refine (dats m 0 c).arrAt_eq_of_covers 3 _ (by decide +kernel) fun t hf y => ?_
  show bestv m c (win0_3.xinj (grid0.coords t) y) = bestv m c (((cfg0.win 3).blk t).view.emb y)
  refine congrArg (bestv m c) (funext fun a => Fin.ext ?_)
  have hi : win0_3.index t a = 0 := (by decide +kernel : ∀ (t : Fin grid0.N) (a : Fin 2), win0_3.index t a = 0) t a
  show (y a).val = win0_3.kind.off (win0_3.index t a) (win0_3.size a) + 1 * (y a).val
  rw [hi]
  show _ = 0 * _ + 1 * (y a).val
  omega

/-! ## The results -/

/-- The first result is the rows, transposed. -/
theorem result_rows (c : Dev nD) : Pipeline.afterTail₀ cfgs (dats m) 0 (V0 m) [hostOps1] c main_v2
    = transpose S128x100000 [1, 0] (rowsOf m c) transposes_S100000x128_S128x100000_1_0 := by
  unfold Pipeline.afterTail₀
  show StableHlo.after hostOps1 _ (Proc.devRef .tc main_v2) = _
  unfold hostOps1
  after_results
  rw [← rows_eq]
  refine congrArg (transpose S128x100000 [1, 0] · transposes_S100000x128_S128x100000_1_0) ?_
  exact Pipeline.withArrays_arr spec0 launch0.win.arr_inj c (V0 m c) (fun w => (dats m 0 c).arrAt w (cfgs 0).N) 1

/-- The second result is the first row of the indices. -/
theorem result_best (c : Dev nD) : Pipeline.afterTail₀ cfgs (dats m) 0 (V0 m) [hostOps1] c main_v4
    = shapeCast S128 (extractStridedSlice S1x128 ![0, 0] (bestv m c) slices_S8x128_S1x128_0_0) shapeCasts_S1x128_S128 := by
  unfold Pipeline.afterTail₀
  show StableHlo.after hostOps1 _ (Proc.devRef .tc main_v4) = _
  unfold hostOps1
  after_results
  rw [← best_eq]
  refine congrArg (fun v : Vec Ideal S8x128 .i32 => shapeCast S128 (extractStridedSlice S1x128 ![0, 0] v slices_S8x128_S1x128_0_0) shapeCasts_S1x128_S128) ?_
  exact Pipeline.withArrays_arr spec0 launch0.win.arr_inj c (V0 m c) (fun w => (dats m 0 c).arrAt w (cfgs 0).N) 3

/-- The first result: the ensemble minimum less the row's maximum and the logarithm of its sum of exponentials. -/
theorem result_rows_apply (c : Dev nD) (hq : ∀ b a, qmin (argOf m c) b a ≠ ⊤) (b : Fin 128) (a : Fin 100000) :
    transpose S128x100000 [1, 0] (rowsOf m c) transposes_S100000x128_S128x100000_1_0 (ix2 b a)
      = ensMin (argOf m c) b a.val a.isLt
        - (Mx (qmin (argOf m c) b) 100000 + Ideal.log (Sm (qmin (argOf m c) b) 100000)) := by
  rw [← normv_eq m c hq (0 : Fin 8) b, ← keptAt_eq]
  refine (transpose_apply _ _ _ _ (ix2 a b) fun x => ?_).trans ?_
  · fin_cases x <;> rfl
  · rfl

/-- The second result is the stored index. -/
theorem result_best_apply (c : Dev nD) (b : Fin 128) :
    shapeCast S128 (extractStridedSlice S1x128 ![0, 0] (bestv m c) slices_S8x128_S1x128_0_0) shapeCasts_S1x128_S128 (ix1 b)
      = bestv m c (ix2 (0 : Fin 8) b) := by
  pointwise

end Cert.KernelIdeal.Hand

end
-- ==== Proof.RefValue.lean ====
module

public import proofs.«01_k».proof.Proof.RefRun
public import proofs.«01_k».proof.Proof.Online
public import Idealize.ShloMosaic.Lib.Pointwise
public import Idealize.ShloMosaic.Lib.IdealHost
public import Idealize.ShloMosaic.Lib.Pipeline.Value
public import Idealize.ShloMosaic.PureOps.Reduce

@[expose] public section

set_option maxRecDepth 16384

noncomputable section

namespace Cert.ReferenceIdeal.Hand

open Cert.ReferenceIdeal Cert.ReferenceIdeal.Gen
open Idealize.ShloMosaic

/-- The word of `-∞`. -/
theorem ofBits_negInf : Ideal.ofBits .f32 0xFF800000#32 = ⊥ := by
  simp [Ideal.ofBits, Ideal.ieee]
/-- The word of `+∞`. -/
theorem ofBits_posInf : Ideal.ofBits .f32 0x7F800000#32 = ⊤ := by
  simp [Ideal.ofBits, Ideal.ieee]

/-! ## The operations at an element, at any sizes -/

section Sizes

variable {B E N : ℕ}

/-- Where the reduction along a row reads. -/
theorem lift_row (h : (⟨2, ![B, N]⟩ : Shape).Reduces [1] ⟨1, ![B]⟩) (b : Fin B) (k : Fin N) : h.lift (ix1 b) k = ix2 b k := by
  funext c; apply Fin.ext
  fin_cases c <;> rfl

/-- Where the reduction of the middle axis reads. -/
theorem lift_mid (h : (⟨3, ![B, E, N]⟩ : Shape).Reduces [1] ⟨2, ![B, N]⟩) (b : Fin B) (a : Fin N) (k : Fin E) : h.lift (ix2 b a) k = ix3 b k a := by
  funext c; apply Fin.ext
  fin_cases c <;> rfl

variable {u : Shape}

/-- A row's maximum from `-∞`. -/
theorem reduceMax_row (h' : (⟨2, ![B, N]⟩ : Shape).ReducesTo [1] ⟨1, ![B]⟩) (h : (⟨2, ![B, N]⟩ : Shape).Reduces [1] ⟨1, ![B]⟩)
    (hu : 0 < u.numel) (x : FVec Ideal ⟨2, ![B, N]⟩ .f32) (b : Fin B) :
    Host.reduce FloatOps.maximumf x (constant u .f32 0xFF800000#32) h' hu (ix1 b) = (Finset.univ : Finset (Fin N)).fold max ⊥ (fun a => x (ix2 b a)) := by
  rw [Host.reduce_eq_fold_single FloatOps.maximumf x _ h' h hu]
  have e : (x ∘ h.lift (ix1 b)) = fun a : Fin N => x (ix2 b a) := funext fun k => congrArg x (lift_row h b k)
  have e' : (constant (F := Ideal) u .f32 0xFF800000#32) (Shape.Idx.first hu) = (⊥ : EReal) := ofBits_negInf
  rw [e']
  exact congrArg (fun f => Finset.fold max (⊥ : EReal) f (Finset.univ : Finset (Fin N))) e

/-- The minimum over the middle axis from `+∞`. -/
theorem reduceMin_mid (h' : (⟨3, ![B, E, N]⟩ : Shape).ReducesTo [1] ⟨2, ![B, N]⟩) (h : (⟨3, ![B, E, N]⟩ : Shape).Reduces [1] ⟨2, ![B, N]⟩)
    (hu : 0 < u.numel) (x : FVec Ideal ⟨3, ![B, E, N]⟩ .f32) (b : Fin B) (a : Fin N) :
    Host.reduce FloatOps.minimumf x (constant u .f32 0x7F800000#32) h' hu (ix2 b a) = (Finset.univ : Finset (Fin E)).fold min ⊤ (fun e => x (ix3 b e a)) := by
  rw [Host.reduce_eq_fold_single FloatOps.minimumf x _ h' h hu]
  have e : (x ∘ h.lift (ix2 b a)) = fun e : Fin E => x (ix3 b e a) := funext fun k => congrArg x (lift_mid h b a k)
  have e' : (constant (F := Ideal) u .f32 0x7F800000#32) (Shape.Idx.first hu) = (⊤ : EReal) := ofBits_posInf
  rw [e']
  exact congrArg (fun f => Finset.fold min (⊤ : EReal) f (Finset.univ : Finset (Fin E))) e

/-- A row's sum. -/
theorem reduceAdd_row (h' : (⟨2, ![B, N]⟩ : Shape).ReducesTo [1] ⟨1, ![B]⟩) (h : (⟨2, ![B, N]⟩ : Shape).Reduces [1] ⟨1, ![B]⟩)
    (hu : 0 < u.numel) (x : FVec Ideal ⟨2, ![B, N]⟩ .f32) (b : Fin B) :
    Host.reduceAdd x (constant u .f32 0x00000000#32) h' hu (ix1 b) = ∑ a : Fin N, x (ix2 b a) := by
  refine (Ideal.hostReduceAdd_single h' h x _ (ix1 b)).trans ?_
  have e' : (constant (F := Ideal) u .f32 0x00000000#32) (Shape.Idx.first hu) = (0 : EReal) := Ideal.ofBits_zero_f32
  rw [e', zero_add]
  exact Finset.sum_congr rfl fun k _ => congrArg x (lift_row h b k)

/-- A value a row, spread over the row. -/
theorem spread_row {α : Type} (h2 : (⟨2, ![B, 1]⟩ : Shape).BroadcastsInDim ⟨2, ![B, N]⟩ ![0, 1]) (v : (⟨2, ![B, 1]⟩ : Shape).Idx → α)
    (b : Fin B) (a : Fin N) : broadcastInDim ⟨2, ![B, N]⟩ ![0, 1] h2 v (ix2 b a) = v (ix2 b (0 : Fin 1)) := by
  refine broadcastInDim_apply _ _ _ _ _ fun x => ?_
  fin_cases x
  · show b.val = if B = 1 then 0 else b.val
    have := b.isLt
    split <;> omega
  · rfl

/-- A value a row, read off its column. -/
theorem column_row {α : Type} (h1 : (⟨1, ![B]⟩ : Shape).BroadcastsInDim ⟨2, ![B, 1]⟩ ![0]) (v : (⟨1, ![B]⟩ : Shape).Idx → α)
    (b : Fin B) : broadcastInDim ⟨2, ![B, 1]⟩ ![0] h1 v (ix2 b (0 : Fin 1)) = v (ix1 b) := by
  refine broadcastInDim_apply _ _ _ _ _ fun x => ?_
  fin_cases x
  show b.val = if B = 1 then 0 else b.val
  have := b.isLt
  split <;> omega

/-- A scalar, spread. -/
theorem spread_scalar {α : Type} {s : Shape} (h : (⟨0, ![]⟩ : Shape).BroadcastsInDim s ![]) (x : (⟨0, ![]⟩ : Shape).Idx → α) (j : s.Idx) :
    broadcastInDim s ![] h x j = x ix0 := congrArg x (funext fun a => a.elim0)

variable {s : Shape}

/-- A difference at an element. -/
theorem subf_at (x y : FVec Ideal s .f32) (j : s.Idx) : subf x y j = (x j - y j : EReal) := rfl
/-- A maximum at an element. -/
theorem maximumf_at (x y : FVec Ideal s .f32) (j : s.Idx) : maximumf x y j = max (x j : EReal) (y j) := rfl
/-- A logarithm at an element. -/
theorem log_at (x : FVec Ideal s .f32) (j : s.Idx) : Host.log x j = Ideal.log (x j) := rfl
/-- An exponential at an element. -/
theorem exp_at (x : FVec Ideal s .f32) (j : s.Idx) : Host.exp x j = Ideal.exp (x j) := rfl
/-- A quotient at an element. -/
theorem div_at (x y : FVec Ideal s .f32) (j : s.Idx) : Host.divf x y j = Ideal.div (x j) (y j) := rfl

end Sizes

/-! ## The reference's stages at an element -/

/-- The ensemble minimum at an element. -/
theorem refMin_apply (x : FVec Ideal S128x4x100000 .f32) (b : Fin 128) (a : Fin 100000) :
    refMin x (ix2 b a) = (Finset.univ : Finset (Fin 4)).fold min ⊤ (fun e => x (ix3 b e a)) :=
  reduceMin_mid _ (by decide) _ x b a

/-- The maximum of a row. -/
theorem rowMax_apply (q : FVec Ideal S128x100000 .f32) (b : Fin 128) :
    rowMax q (ix1 b) = (Finset.univ : Finset (Fin 100000)).fold max ⊥ (fun a => q (ix2 b a)) :=
  reduceMax_row _ (by decide) _ q b

/-- A value a row, spread over the row, at an element. -/
theorem spread_column_apply (v : FVec Ideal S128 .f32) (b : Fin 128) (a : Fin 100000) : spread (column v) (ix2 b a) = v (ix1 b) := by
  unfold spread
  rw [spread_row]
  exact column_row _ v b

/-- The shifted rows at an element. -/
theorem refSub_apply (x : FVec Ideal S128x4x100000 .f32) (b : Fin 128) (a : Fin 100000) :
    refSub x (ix2 b a) = (refMin x (ix2 b a) - rowMax (refMin x) (ix1 b) : EReal) := by
  unfold refSub
  rw [subf_at, spread_column_apply]

/-- The log softmax's own shift at an element. -/
theorem shifted_apply (z : FVec Ideal S128x100000 .f32) (b : Fin 128) (a : Fin 100000) :
    shifted z (ix2 b a) = (z (ix2 b a) - rowMax z (ix1 b) : EReal) := by
  unfold shifted
  rw [subf_at, spread_column_apply, maximumf_at, spread_scalar]
  have e : (constant (F := Ideal) S_ .f32 0xFF800000#32) ix0 = (⊥ : EReal) := ofBits_negInf
  rw [e, bot_sup_eq]

/-- The log softmax at an element. -/
theorem logSoftmax_apply (z : FVec Ideal S128x100000 .f32) (b : Fin 128) (a : Fin 100000) :
    logSoftmax z (ix2 b a) = (shifted z (ix2 b a) - Ideal.log (∑ a : Fin 100000, Ideal.exp (shifted z (ix2 b a))) : EReal) := by
  unfold logSoftmax
  rw [subf_at]
  unfold spread column
  rw [spread_row, log_at, column_row, reduceAdd_row _ (by decide)]
  simp only [exp_at]

/-- Division by one changes nothing: the first result is the log softmax of the shifted rows. -/
theorem refLP_apply (x : FVec Ideal S128x4x100000 .f32) : refLP x = logSoftmax (refSub x) := by
  unfold refLP
  refine congrArg logSoftmax (funext fun j => ?_)
  rw [div_at, spread_scalar]
  have e : (constant (F := Ideal) S_ .f32 0x3F800000#32) ix0 = (1 : EReal) := Ideal.ofBits_one_f32
  rw [e]
  simp [Ideal.div]

/-! ## The reference's index -/

/-- Of two pairs the step keeps one, of the greater value, of the lesser index between equal values. -/
theorem argmax_step (a b : EReal × BitVec 32) :
    (reducer_argmax_f32_i32 (F := Ideal) a b = a ∨ reducer_argmax_f32_i32 (F := Ideal) a b = b)
    ∧ (∀ p, p = a ∨ p = b → p.1 ≤ (reducer_argmax_f32_i32 (F := Ideal) a b).1
        ∧ (p.1 = (reducer_argmax_f32_i32 (F := Ideal) a b).1 → (reducer_argmax_f32_i32 (F := Ideal) a b).2.toInt ≤ p.2.toInt)) := by
  obtain ⟨av, ai⟩ := a
  obtain ⟨bv, bi⟩ := b
  have e : reducer_argmax_f32_i32 (F := Ideal) (av, ai) (bv, bi) = if bv < av then (av, ai) else if av = bv ∧ ai.toInt < bi.toInt then (av, ai) else (bv, bi) := by
    unfold reducer_argmax_f32_i32
    show (Scalar.select (IntOp.ori (Ideal.cmp .ogt av bv) (Ideal.cmp .une av av)) av bv,
      Scalar.select (IntOp.ori (IntOp.ori (Ideal.cmp .ogt av bv) (Ideal.cmp .une av av)) (IntOp.andi (Ideal.cmp .oeq av bv) (IntOp.cmpi .slt ai bi))) ai bi) = _
    unfold Ideal.cmp IntOp.cmpi
    simp only [BitVec.slt]
    by_cases h1 : bv < av
    · have h3 : av ≠ bv := h1.ne'
      simp [h1, h3, Scalar.select, IntOp.ori, IntOp.andi]
    · by_cases h2 : av = bv
      · by_cases h3 : ai.toInt < bi.toInt
        · simp [h2, h3, Scalar.select, IntOp.ori, IntOp.andi]
        · simp [h2, h3, Scalar.select, IntOp.ori, IntOp.andi]
      · simp [h1, h2, Scalar.select, IntOp.ori, IntOp.andi]
  rw [e]
  by_cases h1 : bv < av
  · rw [if_pos h1]
    refine ⟨.inl rfl, ?_⟩
    rintro p (rfl | rfl)
    · exact ⟨le_rfl, fun _ => le_rfl⟩
    · exact ⟨h1.le, fun h => absurd h h1.ne⟩
  · rw [if_neg h1]
    by_cases h2 : av = bv ∧ ai.toInt < bi.toInt
    · rw [if_pos h2]
      refine ⟨.inl rfl, ?_⟩
      rintro p (rfl | rfl)
      · exact ⟨le_rfl, fun _ => le_rfl⟩
      · exact ⟨h2.1.ge, fun _ => h2.2.le⟩
    · rw [if_neg h2]
      refine ⟨.inr rfl, ?_⟩
      rintro p (rfl | rfl)
      · exact ⟨not_lt.mp h1, fun h => not_lt.mp fun hlt => h2 ⟨h, hlt⟩⟩
      · exact ⟨le_rfl, fun _ => le_rfl⟩

/-- So of a list: the fold keeps a member, of the greatest value, of the least index among the equal ones. -/
theorem argmax_foldl (l : List (EReal × BitVec 32)) (p₀ : EReal × BitVec 32) :
    (l.foldl (reducer_argmax_f32_i32 (F := Ideal)) p₀) ∈ p₀ :: l
    ∧ ∀ p ∈ p₀ :: l, p.1 ≤ (l.foldl (reducer_argmax_f32_i32 (F := Ideal)) p₀).1
        ∧ (p.1 = (l.foldl (reducer_argmax_f32_i32 (F := Ideal)) p₀).1 → (l.foldl (reducer_argmax_f32_i32 (F := Ideal)) p₀).2.toInt ≤ p.2.toInt) := by
  induction l generalizing p₀ with
  | nil =>
    refine ⟨List.mem_cons_self, fun p hp => ?_⟩
    rw [List.mem_singleton] at hp
    subst hp
    exact ⟨le_rfl, fun _ => le_rfl⟩
  | cons a l ih =>
    rw [List.foldl_cons]
    obtain ⟨hs, hle⟩ := argmax_step p₀ a
    obtain ⟨h1, h2⟩ := ih (reducer_argmax_f32_i32 (F := Ideal) p₀ a)
    generalize hr : l.foldl (reducer_argmax_f32_i32 (F := Ideal)) (reducer_argmax_f32_i32 (F := Ideal) p₀ a) = r at *
    refine ⟨?_, fun p hp => ?_⟩
    · rcases List.mem_cons.mp h1 with h | h
      · rcases hs with e | e
        · rw [h, e]; exact List.mem_cons_self
        · rw [h, e]; exact List.mem_cons_of_mem _ List.mem_cons_self
      · exact List.mem_cons_of_mem _ (List.mem_cons_of_mem _ h)
    · have hstep := h2 _ List.mem_cons_self
      have two : ∀ p, p = p₀ ∨ p = a → p.1 ≤ r.1 ∧ (p.1 = r.1 → r.2.toInt ≤ p.2.toInt) := fun p hp =>
        ⟨(hle p hp).1.trans hstep.1, fun e =>
          (hstep.2 (le_antisymm hstep.1 (e ▸ (hle p hp).1))).trans ((hle p hp).2 (le_antisymm (hle p hp).1 (e ▸ hstep.1)))⟩
      rcases List.mem_cons.mp hp with h | h
      · exact two p (.inl h)
      · rcases List.mem_cons.mp h with h | h
        · exact two p (.inr h)
        · exact h2 p (List.mem_cons_of_mem _ h)

/-- The index of a row with a value above `-∞`: the first column of the row's maximum. -/
theorem argmax_row {B N : ℕ} (hN : N < 2147483648) {u : Shape} (h : (⟨2, ![B, N]⟩ : Shape).ReducesTo [1] ⟨1, ![B]⟩) (hu : 0 < u.numel)
    (z : FVec Ideal ⟨2, ![B, N]⟩ .f32) (b : Fin B) (hz : ∃ a : Fin N, (z (ix2 b a) : EReal) ≠ ⊥) :
    ∃ a : Fin N, seconds (Host.argReduce reducer_argmax_f32_i32 z (iotaInDim ⟨2, ![B, N]⟩ 32 1) (constant u .f32 0xFF800000#32) (constantI u 32 0#32) h hu) (ix1 b)
        = BitVec.ofNat 32 a.val
      ∧ ∀ a' : Fin N, (z (ix2 b a') : EReal) ≤ z (ix2 b a) ∧ ((z (ix2 b a') : EReal) = z (ix2 b a) → a.val ≤ a'.val) := by
  unfold seconds
  rw [Ideal.argReduce_eq_reduce2, Host.reduce2_eq_foldl_fiber]
  have e' : (constant (F := Ideal) u .f32 0xFF800000#32) (Shape.Idx.first hu) = (⊥ : EReal) := ofBits_negInf
  rw [e']
  have hdrop : ∀ i : (⟨2, ![B, N]⟩ : Shape).Idx, h.drop i = ix1 b ↔ i 0 = b := fun i => by
    have hd : (h.drop i 0 : ℕ) = i 0 := h.drop_apply_val_of_eq i 0 0 Nat.zero_lt_one rfl
    constructor
    · intro e
      apply Fin.ext
      rw [← hd, e]; rfl
    · intro e
      funext x
      fin_cases x
      apply Fin.ext
      show (h.drop i 0 : ℕ) = b.val
      rw [hd, e]
  have hmem : ∀ p, p ∈ Host.argReduceFiber z (iotaInDim ⟨2, ![B, N]⟩ 32 1) h (ix1 b) ↔ ∃ a : Fin N, p = (z (ix2 b a), BitVec.ofNat 32 a.val) := fun p => by
    unfold Host.argReduceFiber
    rw [List.mem_map]
    constructor
    · rintro ⟨n, hn, rfl⟩
      have h0 := (hdrop _).mp (by simpa using (List.mem_filter.mp hn).2)
      refine ⟨((⟨2, ![B, N]⟩ : Shape).rowMajor.symm n) 1, ?_⟩
      have hi : (⟨2, ![B, N]⟩ : Shape).rowMajor.symm n = ix2 b (((⟨2, ![B, N]⟩ : Shape).rowMajor.symm n) 1) := by
        funext x; fin_cases x
        · exact h0
        · rfl
      exact Prod.ext (congrArg z hi) rfl
    · rintro ⟨a, rfl⟩
      refine ⟨(⟨2, ![B, N]⟩ : Shape).rowMajor (ix2 b a), ?_, ?_⟩
      · rw [List.mem_filter]
        refine ⟨List.mem_finRange _, ?_⟩
        rw [Equiv.symm_apply_apply]
        exact decide_eq_true ((hdrop _).mpr rfl)
      · rw [Equiv.symm_apply_apply]; rfl
  obtain ⟨h1, h2⟩ := argmax_foldl (Host.argReduceFiber z (iotaInDim ⟨2, ![B, N]⟩ 32 1) h (ix1 b)) (⊥, (constantI u 32 0#32) (Shape.Idx.first hu))
  generalize hr : (Host.argReduceFiber z (iotaInDim ⟨2, ![B, N]⟩ 32 1) h (ix1 b)).foldl (reducer_argmax_f32_i32 (F := Ideal)) (⊥, (constantI u 32 0#32) (Shape.Idx.first hu)) = r at *
  have hall : ∀ a' : Fin N, (z (ix2 b a') : EReal) ≤ r.1 ∧ ((z (ix2 b a') : EReal) = r.1 → r.2.toInt ≤ (BitVec.ofNat 32 a'.val).toInt) := fun a' =>
    h2 _ (List.mem_cons_of_mem _ ((hmem _).mpr ⟨a', rfl⟩))
  rcases List.mem_cons.mp h1 with e | e
  · obtain ⟨a, ha⟩ := hz
    exact absurd (le_bot_iff.mp ((hall a).1.trans (by rw [e]))) ha
  · obtain ⟨a, rfl⟩ := (hmem _).mp e
    refine ⟨a, rfl, fun a' => ⟨(hall a').1, fun ea => ?_⟩⟩
    have := (hall a').2 ea
    rw [Cert.KernelIdeal.Hand.toInt_ofNat_small _ (by omega), Cert.KernelIdeal.Hand.toInt_ofNat_small _ (by omega)] at this
    exact_mod_cast this

/-- The reference's index of a row. -/
theorem refBest_apply (x : FVec Ideal S128x4x100000 .f32) (b : Fin 128) (hz : ∃ a : Fin 100000, (refSub x (ix2 b a) : EReal) ≠ ⊥) :
    ∃ a : Fin 100000, refBest x (ix1 b) = BitVec.ofNat 32 a.val
      ∧ ∀ a' : Fin 100000, (refSub x (ix2 b a') : EReal) ≤ refSub x (ix2 b a) ∧ ((refSub x (ix2 b a') : EReal) = refSub x (ix2 b a) → a.val ≤ a'.val) := by
  have h := argmax_row (B := 128) (N := 100000) (by norm_num) (u := S_) reducesTo_S128x100000_S128_d1 h_S_ (refSub x) b hz
  exact h

end Cert.ReferenceIdeal.Hand

end
-- ==== Proof.Equation.lean ====
module

public import proofs.«01_k».proof.Proof.Value
public import proofs.«01_k».proof.Proof.RefValue
public import proofs.«01_k».proof.Pre_finite_row_max

@[expose] public section

set_option maxRecDepth 16384

noncomputable section

namespace Cert.Equation

open Cert.KernelIdeal.Hand (ensMin qmin qmin_of_lt qmin_past Mx Sm Mx_step le_Mx Mx_le Mx_attained fold_max_le_iff le_fold_max argOf rowsOf bestv)
open Cert.ReferenceIdeal.Hand (refMin rowMax refSub shifted logSoftmax refLP refBest)
open Cert.ReferenceIdeal (S128x4x100000 S128x100000 S128 S_)
open Idealize.ShloMosaic

/-! ## The precondition -/

/-- What its comparisons say of an array of row maxima. -/
theorem finite_decode {s : Shape} (M : FVec Ideal s .f32) (h h' : S_.BroadcastsInDim s (![] : Fin 0 → Fin s.rank))
    (e : andi (cmpf .ogt M (broadcastInDim s ![] h (constant S_ .f32 0xFF800000#32))) (cmpf .olt M (broadcastInDim s ![] h' (constant S_ .f32 0x7F800000#32)))
      = fun _ => 1#1) (j : s.Idx) : (M j : EReal) ≠ ⊥ ∧ (M j : EReal) ≠ ⊤ := by
  have ej : IntOp.andi (Ideal.cmp .ogt (M j) (Ideal.ofBits .f32 0xFF800000#32)) (Ideal.cmp .olt (M j) (Ideal.ofBits .f32 0x7F800000#32)) = 1#1 := congrFun e j
  rw [Cert.ReferenceIdeal.Hand.ofBits_negInf, Cert.ReferenceIdeal.Hand.ofBits_posInf] at ej
  unfold Ideal.cmp IntOp.andi at ej
  constructor
  · intro hb
    rw [hb] at ej
    simp at ej
  · intro hb
    rw [hb] at ej
    simp at ej

/-- Under the precondition the reference's maximum of a row is finite. -/
theorem finite_of_pre [Cert.Pre_finite_row_max.Facts] (x : FVec Ideal S128x4x100000 .f32) (h : Cert.Pre_finite_row_max.fn x = fun _ => 1#1) (b : Fin 128) :
    (rowMax (refMin x) (ix1 b) : EReal) ≠ ⊥ ∧ (rowMax (refMin x) (ix1 b) : EReal) ≠ ⊤ :=
  finite_decode (rowMax (refMin x)) _ _ h (ix1 b)

/-! ## The reference in terms of the rows' sequences -/

/-- The maximum over all of a row's columns is that of its sequence's first `N` values. -/
theorem fold_eq_Mx (v : ℕ → EReal) (N : ℕ) : (Finset.univ : Finset (Fin N)).fold max ⊥ (fun g => v g.val) = Mx v N := by
  have := Mx_step v 0 N
  simp only [Nat.zero_add] at this
  rw [← this]
  simp [Mx]

/-- The reference's ensemble minimum is the sequence's value. -/
theorem refMin_eq (x : FVec Ideal S128x4x100000 .f32) (b : Fin 128) (a : Fin 100000) : refMin x (ix2 b a) = qmin x b a.val := by
  rw [Cert.ReferenceIdeal.Hand.refMin_apply, qmin_of_lt x b a.val a.isLt]; rfl

/-- Its row maximum is the sequence's. -/
theorem rowMax_eq (x : FVec Ideal S128x4x100000 .f32) (b : Fin 128) : rowMax (refMin x) (ix1 b) = Mx (qmin x b) 100000 := by
  rw [Cert.ReferenceIdeal.Hand.rowMax_apply, ← fold_eq_Mx]
  simp only [refMin_eq]

/-- Its shifted row is the sequence less its maximum. -/
theorem refSub_eq (x : FVec Ideal S128x4x100000 .f32) (b : Fin 128) (a : Fin 100000) :
    refSub x (ix2 b a) = (qmin x b a.val - Mx (qmin x b) 100000 : EReal) := by
  rw [Cert.ReferenceIdeal.Hand.refSub_apply, refMin_eq, rowMax_eq]

variable (x : FVec Ideal S128x4x100000 .f32) (b : Fin 128)

/-- A row of finite maximum has no value at `+∞`. -/
theorem qmin_ne_top (htop : Mx (qmin x b) 100000 ≠ ⊤) (a : ℕ) : qmin x b a ≠ ⊤ := by
  by_cases h : a < 100000
  · intro e
    exact htop (top_le_iff.mp (e ▸ le_Mx (qmin x b) 100000 a h))
  · rw [qmin_past x b a (by omega)]
    exact bot_ne_top

/-- A value less a finite one is zero only if it is that one. -/
theorem sub_real_eq_zero {q μ : EReal} (hbot : μ ≠ ⊥) (htop : μ ≠ ⊤) (h : q - μ = 0) : q = μ := by
  lift μ to ℝ using ⟨htop, hbot⟩
  induction q with
  | bot => simp at h
  | top => simp at h
  | coe q =>
    have : ((q - μ : ℝ) : EReal) = ((0 : ℝ) : EReal) := by push_cast; exact h
    have := EReal.coe_injective this
    rw [sub_eq_zero.mp this]

/-- A value at most a finite one is, less it, at most zero. -/
theorem sub_real_le_zero {q μ : EReal} (hbot : μ ≠ ⊥) (htop : μ ≠ ⊤) (h : q ≤ μ) : q - μ ≤ 0 := by
  have := EReal.sub_le_sub h (le_refl μ)
  rwa [EReal.sub_self htop hbot] at this

/-- Its greatest value less itself is zero. -/
theorem rowMax_sub (hbot : Mx (qmin x b) 100000 ≠ ⊥) (htop : Mx (qmin x b) 100000 ≠ ⊤) : rowMax (refSub x) (ix1 b) = (0 : EReal) := by
  rw [Cert.ReferenceIdeal.Hand.rowMax_apply]
  simp only [refSub_eq]
  apply le_antisymm
  · rw [fold_max_le_iff]
    exact fun a => sub_real_le_zero hbot htop (le_Mx _ _ _ a.isLt)
  · obtain ⟨a, ha, e⟩ := Mx_attained (qmin x b) 100000 (by norm_num)
    have := le_fold_max (fun a : Fin 100000 => (qmin x b a.val - Mx (qmin x b) 100000 : EReal)) ⟨a, ha⟩
    refine le_trans (le_of_eq ?_) this
    show 0 = qmin x b a - _
    rw [e, EReal.sub_self htop hbot]

/-- The second shift, inside the log softmax, changes nothing. -/
theorem shifted_eq (hbot : Mx (qmin x b) 100000 ≠ ⊥) (htop : Mx (qmin x b) 100000 ≠ ⊤) (a : Fin 100000) :
    shifted (refSub x) (ix2 b a) = (qmin x b a.val - Mx (qmin x b) 100000 : EReal) := by
  rw [Cert.ReferenceIdeal.Hand.shifted_apply, rowMax_sub x b hbot htop, refSub_eq, sub_zero]

/-- The first result: the value less the maximum, less the logarithm of the sum of exponentials. -/
theorem refLP_eq (hbot : Mx (qmin x b) 100000 ≠ ⊥) (htop : Mx (qmin x b) 100000 ≠ ⊤) (a : Fin 100000) :
    refLP x (ix2 b a) = ((qmin x b a.val - Mx (qmin x b) 100000) - Ideal.log (Sm (qmin x b) 100000) : EReal) := by
  rw [Cert.ReferenceIdeal.Hand.refLP_apply, Cert.ReferenceIdeal.Hand.logSoftmax_apply]
  simp only [shifted_eq x b hbot htop]
  unfold Sm
  rw [Finset.sum_range]

/-! ## The equation -/

/-- Subtracting the maximum and the logarithm at once, or one after the other. -/
theorem sub_add_eq {q μ l : EReal} (hbot : μ ≠ ⊥) (htop : μ ≠ ⊤) : q - (μ + l) = (q - μ) - l := by
  rw [sub_eq_add_neg, EReal.neg_add (.inl hbot) (.inl htop), sub_eq_add_neg, sub_eq_add_neg, sub_eq_add_neg, add_assoc]

/-- A first position of the maximum is the only one: the reference's is it. -/
theorem best_unique (hbot : Mx (qmin x b) 100000 ≠ ⊥) (htop : Mx (qmin x b) 100000 ≠ ⊤) (a : ℕ) (ha : a < 100000)
    (hmax : qmin x b a = Mx (qmin x b) 100000) (hfirst : ∀ a' < 100000, qmin x b a' = Mx (qmin x b) 100000 → a ≤ a') :
    refBest x (ix1 b) = BitVec.ofNat 32 a := by
  have h0 : refSub x (ix2 b (⟨a, ha⟩ : Fin 100000)) = (0 : EReal) := by
    rw [refSub_eq]
    show qmin x b a - _ = 0
    rw [hmax, EReal.sub_self htop hbot]
  obtain ⟨r, hr, hall⟩ := Cert.ReferenceIdeal.Hand.refBest_apply x b ⟨⟨a, ha⟩, by rw [h0]; exact EReal.zero_ne_bot⟩
  obtain ⟨hle, hidx⟩ := hall ⟨a, ha⟩
  rw [h0] at hle hidx
  have hr0 : refSub x (ix2 b r) = (0 : EReal) := le_antisymm (by rw [refSub_eq]; exact sub_real_le_zero hbot htop (le_Mx _ _ _ r.isLt)) hle
  have hrq : qmin x b r.val = Mx (qmin x b) 100000 := sub_real_eq_zero hbot htop (by rw [← refSub_eq, hr0])
  rw [hr, le_antisymm (hidx hr0.symm) (hfirst r.val r.isLt hrq)]

/-! ## The two programs' results -/

open Cert.KernelIdeal.Gen in
/-- The kernel's rows are the reference's, where every row's maximum is finite. -/
theorem rows_result (m : (ℓ : Loc Cert.KernelIdeal.nD Cert.KernelIdeal.τ Cert.KernelIdeal.sig) → Buf (Elt Ideal) ℓ) (c : Dev Cert.KernelIdeal.nD)
    (h : ∀ b, Mx (qmin (argOf m c) b) 100000 ≠ ⊥ ∧ Mx (qmin (argOf m c) b) 100000 ≠ ⊤) :
    transpose Cert.KernelIdeal.S128x100000 [1, 0] (rowsOf m c) transposes_S100000x128_S128x100000_1_0 = refLP (argOf m c) := by
  funext j
  have hj : j = ix2 (j 0 : Fin 128) (j 1 : Fin 100000) := by funext a; fin_cases a <;> rfl
  rw [hj]
  refine (Cert.KernelIdeal.Hand.result_rows_apply m c (fun b a => qmin_ne_top _ b (h b).2 a) (j 0) (j 1)).trans ?_
  refine Eq.trans ?_ (refLP_eq (argOf m c) (j 0) (h _).1 (h _).2 (j 1)).symm
  rw [qmin_of_lt (argOf m c) (j 0) (j 1).val (j 1).isLt]
  exact sub_add_eq (h _).1 (h _).2

open Cert.KernelIdeal.Gen in
/-- And its indices. -/
theorem best_result (m : (ℓ : Loc Cert.KernelIdeal.nD Cert.KernelIdeal.τ Cert.KernelIdeal.sig) → Buf (Elt Ideal) ℓ) (c : Dev Cert.KernelIdeal.nD)
    (h : ∀ b, Mx (qmin (argOf m c) b) 100000 ≠ ⊥ ∧ Mx (qmin (argOf m c) b) 100000 ≠ ⊤) :
    shapeCast Cert.KernelIdeal.S128 (extractStridedSlice Cert.KernelIdeal.S1x128 ![0, 0] (bestv m c) slices_S8x128_S1x128_0_0) shapeCasts_S1x128_S128
      = refBest (argOf m c) := by
  funext j
  have hj : j = ix1 (j 0 : Fin 128) := by funext a; fin_cases a; rfl
  rw [hj]
  refine (Cert.KernelIdeal.Hand.result_best_apply m c (j 0)).trans ?_
  obtain ⟨a, ha, e, hmax, hfirst⟩ := Cert.KernelIdeal.Hand.bestv_eq m c (fun b a => qmin_ne_top _ b (h b).2 a) 0 (j 0) (h _).1
  rw [e]
  exact (best_unique (argOf m c) (j 0) (h _).1 (h _).2 a ha hmax hfirst).symm

/-- What the precondition says of a row's maximum. -/
theorem finite_rows [Cert.Pre_finite_row_max.Facts] (x : FVec Ideal S128x4x100000 .f32) (h : Cert.Pre_finite_row_max.fn x = fun _ => 1#1) (b : Fin 128) :
    Mx (qmin x b) 100000 ≠ ⊥ ∧ Mx (qmin x b) 100000 ≠ ⊤ := by
  have := finite_of_pre x h b
  rwa [rowMax_eq] at this

end Cert.Equation

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Data
public import proofs.«01_k».proof.Proof.KData
public import proofs.«01_k».proof.Proof.RefRun
public import proofs.«01_k».proof.Proof.Equation
public import Idealize.ShloMosaic.Adequacy
public import Idealize.ShloMosaic.Init

@[expose] public section

noncomputable section

namespace Cert.Proof

open Idealize.ShloMosaic Idealize.SL.Sem

/-- The kernel runs, its argument ends unchanged and every counter at zero. -/
theorem frame_kernel : Cert.quiescent_Kernel (hKernel := Cert.Kernel.Gen.facts) := fun m ρ _ =>
  (θ_run Cert.Kernel.defs _ _).mono
    (fun r h => ⟨fun c => ((h.1 c).2 Cert.Kernel.main_arg0 (Pipeline.mem_restRefs_of Cert.Kernel.main_arg0 (by decide) (by decide))).trans
      (Cert.Kernel.Gen.W_main_arg0 m (Cert.Kernel.Hand.dats m) c), h.2⟩)
    (Cert.Kernel.Hand.run_main m ρ)

/-- The same of its reading at the extended reals. -/
theorem frame_ideal : Cert.quiescent_KernelIdeal (hKernelIdeal := Cert.KernelIdeal.Gen.facts) := fun m ρ _ =>
  (θ_run Cert.KernelIdeal.defs _ _).mono
    (fun r h => ⟨fun c => ((h.1 c).2 Cert.KernelIdeal.main_arg0 (Pipeline.mem_restRefs_of Cert.KernelIdeal.main_arg0 (by decide) (by decide))).trans
      (Cert.KernelIdeal.Gen.W_main_arg0 m (Cert.KernelIdeal.Hand.dats m) c), h.2⟩)
    (Cert.KernelIdeal.Hand.run_main m ρ)

/-- The precondition's side conditions. -/
theorem pre_facts : Cert.Pre_finite_row_max.Facts := ⟨by decide, by decide, by decide, by decide⟩

/-- The kernel, its argument's row maxima finite, runs to the reference's two results of its argument. -/
theorem run_ideal (m : (ℓ : Loc Cert.KernelIdeal.nD Cert.KernelIdeal.τ Cert.KernelIdeal.sig) → Buf (Elt Ideal) ℓ) (g : Dev Cert.KernelIdeal.nD → PrngReg)
    (h : Cert.Pre_KernelIdeal_finite_row_max (hPre_finite_row_max := pre_facts) m) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v2) = Cert.ReferenceIdeal.Hand.refLP (Cert.KernelIdeal.Hand.argOf m c)
      ∧ r.2.mem ((c.tc : Thread Cert.KernelIdeal.nD Cert.KernelIdeal.τ).loc Cert.KernelIdeal.main_v4) = Cert.ReferenceIdeal.Hand.refBest (Cert.KernelIdeal.Hand.argOf m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) := by
  refine (θ_run Cert.KernelIdeal.defs _ _).mono (fun r hr c => ?_) (Cert.KernelIdeal.Hand.run_main m g)
  have hf := @Cert.Equation.finite_rows pre_facts (Cert.KernelIdeal.Hand.argOf m c) (h c)
  refine ⟨?_, ?_, ?_⟩
  · refine ((hr.1 c).2 Cert.KernelIdeal.main_v2 (Pipeline.mem_restRefs_of _ (by decide) (by decide))).trans ?_
    exact (Cert.KernelIdeal.Hand.result_rows m c).trans (Cert.Equation.rows_result m c hf)
  · refine ((hr.1 c).2 Cert.KernelIdeal.main_v4 (Pipeline.mem_restRefs_of _ (by decide) (by decide))).trans ?_
    exact (Cert.KernelIdeal.Hand.result_best m c).trans (Cert.Equation.best_result m c hf)
  · exact ((hr.1 c).2 Cert.KernelIdeal.main_arg0 (Pipeline.mem_restRefs_of _ (by decide) (by decide))).trans
      (Cert.KernelIdeal.Gen.W_main_arg0 m (Cert.KernelIdeal.Hand.dats m) c)

/-- The two programs end with equal results. -/
theorem algebraic : Cert.algebraic_KernelIdeal_ReferenceIdeal_pre_finite_row_max (hKernelIdeal := Cert.KernelIdeal.Gen.facts)
    (hReferenceIdeal := Cert.ReferenceIdeal.Gen.facts) (hPre_finite_row_max := pre_facts) := by
  intro m g m' g' h harg
  refine ⟨fun c => Cert.ReferenceIdeal.Hand.refLP (Cert.KernelIdeal.Hand.argOf m c), fun c => Cert.ReferenceIdeal.Hand.refBest (Cert.KernelIdeal.Hand.argOf m c),
    run_ideal m g h, ?_⟩
  refine (θ_run Cert.ReferenceIdeal.defs _ _).mono (fun r hr c => ?_) (Cert.ReferenceIdeal.Hand.run_reference m' g')
  obtain ⟨h0, h1, h2⟩ := hr c
  exact ⟨h0.trans (congrArg Cert.ReferenceIdeal.Hand.refLP (harg c)), h1.trans (congrArg Cert.ReferenceIdeal.Hand.refBest (harg c)), h2⟩

/-- All claims together. -/
theorem claim : Cert.Claim :=
  ⟨Cert.Kernel.Gen.facts, Cert.KernelIdeal.Gen.facts, Cert.ReferenceIdeal.Gen.facts, pre_facts, frame_kernel, frame_ideal,
    fun m g _ => frame_ideal m g trivial, Cert.ReferenceIdeal.Hand.frame_reference, fun m g _ => Cert.ReferenceIdeal.Hand.frame_reference m g trivial,
    trivial, algebraic⟩

end Cert.Proof

end
